-- ==== Defs.lean ====
def Pre_Latent [hPre_causal_schedule : Cert.Pre_causal_schedule.Facts] (m : (ℓ : Loc Cert.Latent.nD Cert.Latent.τ Cert.Latent.sig) → Buf (Elt Bits) ℓ) : Prop :=
  ∀ c : Dev Cert.Latent.nD,
    (Cert.Pre_causal_schedule.fn (F := Bits) (m ((c.tc : Thread Cert.Latent.nD Cert.Latent.τ).loc Cert.Latent.main_arg0)) (m ((c.tc : Thread Cert.Latent.nD Cert.Latent.τ).loc Cert.Latent.main_arg1)) (m ((c.tc : Thread Cert.Latent.nD Cert.Latent.τ).loc Cert.Latent.main_arg2)) (m ((c.tc : Thread Cert.Latent.nD Cert.Latent.τ).loc Cert.Latent.main_arg3)) (m ((c.tc : Thread Cert.Latent.nD Cert.Latent.τ).loc Cert.Latent.main_arg4))) = (fun _ => 1#1)

def Pre_LatentIdeal [hPre_causal_schedule : Cert.Pre_causal_schedule.Facts] (m : (ℓ : Loc Cert.LatentIdeal.nD Cert.LatentIdeal.τ Cert.LatentIdeal.sig) → Buf (Elt Ideal) ℓ) : Prop :=
  ∀ c : Dev Cert.LatentIdeal.nD,
    (Cert.Pre_causal_schedule.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))) = (fun _ => 1#1)

def Pre_LatentIdeal_finite_with_ones [hPre_finite_with_ones : Cert.Pre_finite_with_ones.Facts] (m : (ℓ : Loc Cert.LatentIdeal.nD Cert.LatentIdeal.τ Cert.LatentIdeal.sig) → Buf (Elt Ideal) ℓ) : Prop :=
  ∀ c : Dev Cert.LatentIdeal.nD,
    (Cert.Pre_finite_with_ones.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite_with_ones [hPre_finite_with_ones : Cert.Pre_finite_with_ones.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite_with_ones.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2)) (m ((c.tc : Thread Cert.LatentRefIdeal.nD Cert.LatentRefIdeal.τ).loc Cert.LatentRefIdeal.main_arg3)) (m ((c.tc : Thread Cert.LatentRefIdeal.nD Cert.LatentRefIdeal.τ).loc Cert.LatentRefIdeal.main_arg4))) = (fun _ => 1#1)

def Pre_Experts [hPre_groups_in_range : Cert.Pre_groups_in_range.Facts] (m : (ℓ : Loc Cert.Experts.nD Cert.Experts.τ Cert.Experts.sig) → Buf (Elt Bits) ℓ) : Prop :=
  ∀ c : Dev Cert.Experts.nD,
    (Cert.Pre_groups_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_groups_in_range : Cert.Pre_groups_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_groups_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsIdeal_finite_groups [hPre_finite_groups : Cert.Pre_finite_groups.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_finite_groups.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_finite_groups [hPre_finite_groups : Cert.Pre_finite_groups.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_finite_groups.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def quiescent_Latent [hLatent : Cert.Latent.Facts] [hPre_causal_schedule : Cert.Pre_causal_schedule.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4))
      ∧ r.2.sem = fun _ => 0)

def quiescent_LatentIdeal [hLatentIdeal : Cert.LatentIdeal.Facts] [hPre_causal_schedule : Cert.Pre_causal_schedule.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentIdeal_pre_finite_with_ones [hLatentIdeal : Cert.LatentIdeal.Facts] [hPre_finite_with_ones : Cert.Pre_finite_with_ones.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_with_ones m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3)
      ∧ r.2.mem ((c.tc : Thread Cert.LatentRefIdeal.nD Cert.LatentRefIdeal.τ).loc Cert.LatentRefIdeal.main_arg4) = m ((c.tc : Thread Cert.LatentRefIdeal.nD Cert.LatentRefIdeal.τ).loc Cert.LatentRefIdeal.main_arg4))
      ∧ r.2.sem = fun _ => 0)

def quiescent_LatentRefIdeal_pre_finite_with_ones [hLatentRefIdeal : Cert.LatentRefIdeal.Facts] [hPre_finite_with_ones : Cert.Pre_finite_with_ones.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite_with_ones m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3)
      ∧ r.2.mem ((c.tc : Thread Cert.LatentRefIdeal.nD Cert.LatentRefIdeal.τ).loc Cert.LatentRefIdeal.main_arg4) = m ((c.tc : Thread Cert.LatentRefIdeal.nD Cert.LatentRefIdeal.τ).loc Cert.LatentRefIdeal.main_arg4))
      ∧ r.2.sem = fun _ => 0)

def quiescent_Experts [hExperts : Cert.Experts.Facts] [hPre_groups_in_range : Cert.Pre_groups_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_groups_in_range : Cert.Pre_groups_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_finite_groups [hExpertsIdeal : Cert.ExpertsIdeal.Facts] [hPre_finite_groups : Cert.Pre_finite_groups.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_finite_groups m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_finite_groups [hExpertsRefIdeal : Cert.ExpertsRefIdeal.Facts] [hPre_finite_groups : Cert.Pre_finite_groups.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_finite_groups m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Latent_LatentIdeal : Prop :=
  IdealRules.named_const.Statement Cert.LatentIdeal.κ "mask" .f32 0xF149F2CA#32 ⊥

def algebraic_LatentIdeal_LatentRefIdeal_pre_finite_with_ones [hLatentIdeal : Cert.LatentIdeal.Facts] [hLatentRefIdeal : Cert.LatentRefIdeal.Facts] [hPre_finite_with_ones : Cert.Pre_finite_with_ones.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite_with_ones m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)
      ∧ m' ((c.tc : Thread Cert.LatentRefIdeal.nD Cert.LatentRefIdeal.τ).loc Cert.LatentRefIdeal.main_arg4) = m ((c.tc : Thread Cert.LatentIdeal.nD Cert.LatentIdeal.τ).loc Cert.LatentIdeal.main_arg4)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v39) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3)
          ∧ r.2.mem ((c.tc : Thread Cert.LatentRefIdeal.nD Cert.LatentRefIdeal.τ).loc Cert.LatentRefIdeal.main_arg4) = m' ((c.tc : Thread Cert.LatentRefIdeal.nD Cert.LatentRefIdeal.τ).loc Cert.LatentRefIdeal.main_arg4))

def preserves_Experts_ExpertsIdeal : Prop :=
  True

def algebraic_ExpertsIdeal_ExpertsRefIdeal_pre_finite_groups [hExpertsIdeal : Cert.ExpertsIdeal.Facts] [hExpertsRefIdeal : Cert.ExpertsRefIdeal.Facts] [hPre_finite_groups : Cert.Pre_finite_groups.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_finite_groups m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v43) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hLatent : Cert.Latent.Facts) (hLatentIdeal : Cert.LatentIdeal.Facts) (hLatentRefIdeal : Cert.LatentRefIdeal.Facts) (hExperts : Cert.Experts.Facts) (hExpertsIdeal : Cert.ExpertsIdeal.Facts) (hExpertsRefIdeal : Cert.ExpertsRefIdeal.Facts) (hPre_causal_schedule : Cert.Pre_causal_schedule.Facts) (hPre_finite_with_ones : Cert.Pre_finite_with_ones.Facts) (hPre_groups_in_range : Cert.Pre_groups_in_range.Facts) (hPre_finite_groups : Cert.Pre_finite_groups.Facts),
    quiescent_Latent (hLatent := hLatent) (hPre_causal_schedule := hPre_causal_schedule)
    ∧ quiescent_LatentIdeal (hLatentIdeal := hLatentIdeal) (hPre_causal_schedule := hPre_causal_schedule)
    ∧ quiescent_LatentIdeal_pre_finite_with_ones (hLatentIdeal := hLatentIdeal) (hPre_finite_with_ones := hPre_finite_with_ones)
    ∧ quiescent_LatentRefIdeal (hLatentRefIdeal := hLatentRefIdeal)
    ∧ quiescent_LatentRefIdeal_pre_finite_with_ones (hLatentRefIdeal := hLatentRefIdeal) (hPre_finite_with_ones := hPre_finite_with_ones)
    ∧ quiescent_Experts (hExperts := hExperts) (hPre_groups_in_range := hPre_groups_in_range)
    ∧ quiescent_ExpertsIdeal (hExpertsIdeal := hExpertsIdeal) (hPre_groups_in_range := hPre_groups_in_range)
    ∧ quiescent_ExpertsIdeal_pre_finite_groups (hExpertsIdeal := hExpertsIdeal) (hPre_finite_groups := hPre_finite_groups)
    ∧ quiescent_ExpertsRefIdeal (hExpertsRefIdeal := hExpertsRefIdeal)
    ∧ quiescent_ExpertsRefIdeal_pre_finite_groups (hExpertsRefIdeal := hExpertsRefIdeal) (hPre_finite_groups := hPre_finite_groups)
    ∧ preserves_Latent_LatentIdeal
    ∧ algebraic_LatentIdeal_LatentRefIdeal_pre_finite_with_ones (hLatentIdeal := hLatentIdeal) (hLatentRefIdeal := hLatentRefIdeal) (hPre_finite_with_ones := hPre_finite_with_ones)
    ∧ preserves_Experts_ExpertsIdeal
    ∧ algebraic_ExpertsIdeal_ExpertsRefIdeal_pre_finite_groups (hExpertsIdeal := hExpertsIdeal) (hExpertsRefIdeal := hExpertsRefIdeal) (hPre_finite_groups := hPre_finite_groups)
-- ==== Pre_causal_schedule.lean ====
abbrev S272 : Shape := ⟨1, ![272]⟩
abbrev S16384x1024 : Shape := ⟨2, ![16384, 1024]⟩
abbrev S_ : Shape := ⟨0, ![]⟩

class Facts : Prop where
  bcast_S_S272 : S_.BroadcastsInDim S272 (![] : Fin 0 → Fin S272.rank)
  natLt_1_32 : 1 < 32
  reducesTo_S272_S_d0 : S272.ReducesTo [0] S_
  h_S_ : 0 < S_.numel

variable [Facts]

def fn_part3 {F : FTy → Type} [FloatOps F] (main_arg0 : IVec S272 32) (main_arg1 : IVec S272 32) (main_v0 : IVec S272 32) (main_v53 : IVec S272 32) (main_v56 : IVec S272 32) : IVec S_ 1 :=
  let main_v57 : IVec S272 32 := addi main_v53 main_v56
  let main_c_14 : IVec S_ 32 := constantI S_ 32 240#32
  let main_v58 : IVec S272 32 := broadcastInDim S272 ![] bcast_S_S272 main_c_14
  let main_v59 : IVec S272 1 := cmpi .sge main_v0 main_v58
  let main_v60 : IVec S272 32 := (extui 32 · natLt_1_32) main_v59
  let main_v61 : IVec S272 32 := addi main_v57 main_v60
  let main_v62 : IVec S272 1 := cmpi .eq main_arg0 main_v61
  let main_c_15 : IVec S_ 1 := constantI S_ 1 1#1
  let main_v63 : IVec S_ 1 := (fun x v => Host.reduce IntOp.andi x v reducesTo_S272_S_d0 h_S_) main_v62 main_c_15
  let main_c_16 : IVec S_ 32 := constantI S_ 32 1#32
  let main_v64 : IVec S272 32 := broadcastInDim S272 ![] bcast_S_S272 main_c_16
  let main_v65 : IVec S272 32 := addi main_v61 main_v64
  let main_v66 : IVec S272 32 := muli main_v61 main_v65
  let main_v67 : IVec S272 32 := subi main_v0 main_v66
  let main_v68 : IVec S272 1 := cmpi .eq main_arg1 main_v67
  let main_c_17 : IVec S_ 1 := constantI S_ 1 1#1
  let main_v69 : IVec S_ 1 := (fun x v => Host.reduce IntOp.andi x v reducesTo_S272_S_d0 h_S_) main_v68 main_c_17
  let main_v70 : IVec S_ 1 := andi main_v63 main_v69
  main_v70

def fn_part2 {F : FTy → Type} [FloatOps F] (main_arg0 : IVec S272 32) (main_arg1 : IVec S272 32) (main_v0 : IVec S272 32) (main_v37 : IVec S272 32) : IVec S_ 1 :=
  let main_c_9 : IVec S_ 32 := constantI S_ 32 110#32
  let main_v38 : IVec S272 32 := broadcastInDim S272 ![] bcast_S_S272 main_c_9
  let main_v39 : IVec S272 1 := cmpi .sge main_v0 main_v38
  let main_v40 : IVec S272 32 := (extui 32 · natLt_1_32) main_v39
  let main_v41 : IVec S272 32 := addi main_v37 main_v40
  let main_c_10 : IVec S_ 32 := constantI S_ 32 132#32
  let main_v42 : IVec S272 32 := broadcastInDim S272 ![] bcast_S_S272 main_c_10
  let main_v43 : IVec S272 1 := cmpi .sge main_v0 main_v42
  let main_v44 : IVec S272 32 := (extui 32 · natLt_1_32) main_v43
  let main_v45 : IVec S272 32 := addi main_v41 main_v44
  let main_c_11 : IVec S_ 32 := constantI S_ 32 156#32
  let main_v46 : IVec S272 32 := broadcastInDim S272 ![] bcast_S_S272 main_c_11
  let main_v47 : IVec S272 1 := cmpi .sge main_v0 main_v46
  let main_v48 : IVec S272 32 := (extui 32 · natLt_1_32) main_v47
  let main_v49 : IVec S272 32 := addi main_v45 main_v48
  let main_c_12 : IVec S_ 32 := constantI S_ 32 182#32
  let main_v50 : IVec S272 32 := broadcastInDim S272 ![] bcast_S_S272 main_c_12
  let main_v51 : IVec S272 1 := cmpi .sge main_v0 main_v50
  let main_v52 : IVec S272 32 := (extui 32 · natLt_1_32) main_v51
  let main_v53 : IVec S272 32 := addi main_v49 main_v52
  let main_c_13 : IVec S_ 32 := constantI S_ 32 210#32
  let main_v54 : IVec S272 32 := broadcastInDim S272 ![] bcast_S_S272 main_c_13
  let main_v55 : IVec S272 1 := cmpi .sge main_v0 main_v54
  let main_v56 : IVec S272 32 := (extui 32 · natLt_1_32) main_v55
  fn_part3 (F := F) main_arg0 main_arg1 main_v0 main_v53 main_v56

def fn_part1 {F : FTy → Type} [FloatOps F] (main_arg0 : IVec S272 32) (main_arg1 : IVec S272 32) (main_v0 : IVec S272 32) (main_v17 : IVec S272 32) (main_c_4 : IVec S_ 32) : IVec S_ 1 :=
  let main_v18 : IVec S272 32 := broadcastInDim S272 ![] bcast_S_S272 main_c_4
  let main_v19 : IVec S272 1 := cmpi .sge main_v0 main_v18
  let main_v20 : IVec S272 32 := (extui 32 · natLt_1_32) main_v19
  let main_v21 : IVec S272 32 := addi main_v17 main_v20
  let main_c_5 : IVec S_ 32 := constantI S_ 32 42#32
  let main_v22 : IVec S272 32 := broadcastInDim S272 ![] bcast_S_S272 main_c_5
  let main_v23 : IVec S272 1 := cmpi .sge main_v0 main_v22
  let main_v24 : IVec S272 32 := (extui 32 · natLt_1_32) main_v23
  let main_v25 : IVec S272 32 := addi main_v21 main_v24
  let main_c_6 : IVec S_ 32 := constantI S_ 32 56#32
  let main_v26 : IVec S272 32 := broadcastInDim S272 ![] bcast_S_S272 main_c_6
  let main_v27 : IVec S272 1 := cmpi .sge main_v0 main_v26
  let main_v28 : IVec S272 32 := (extui 32 · natLt_1_32) main_v27
  let main_v29 : IVec S272 32 := addi main_v25 main_v28
  let main_c_7 : IVec S_ 32 := constantI S_ 32 72#32
  let main_v30 : IVec S272 32 := broadcastInDim S272 ![] bcast_S_S272 main_c_7
  let main_v31 : IVec S272 1 := cmpi .sge main_v0 main_v30
  let main_v32 : IVec S272 32 := (extui 32 · natLt_1_32) main_v31
  let main_v33 : IVec S272 32 := addi main_v29 main_v32
  let main_c_8 : IVec S_ 32 := constantI S_ 32 90#32
  let main_v34 : IVec S272 32 := broadcastInDim S272 ![] bcast_S_S272 main_c_8
  let main_v35 : IVec S272 1 := cmpi .sge main_v0 main_v34
  let main_v36 : IVec S272 32 := (extui 32 · natLt_1_32) main_v35
  let main_v37 : IVec S272 32 := addi main_v33 main_v36
  fn_part2 (F := F) main_arg0 main_arg1 main_v0 main_v37

def fn {F : FTy → Type} [FloatOps F] (main_arg0 : IVec S272 32) (main_arg1 : IVec S272 32) (main_arg2 : FVec F S16384x1024 .bf16) (main_arg3 : FVec F S16384x1024 .bf16) (main_arg4 : FVec F S16384x1024 .bf16) : IVec S_ 1 :=
  let main_v0 : IVec S272 32 := iotaInDim S272 32 0
  let main_c : IVec S_ 32 := constantI S_ 32 0#32
  let main_v1 : IVec S272 32 := broadcastInDim S272 ![] bcast_S_S272 main_c
  let main_c_0 : IVec S_ 32 := constantI S_ 32 2#32
  let main_v2 : IVec S272 32 := broadcastInDim S272 ![] bcast_S_S272 main_c_0
  let main_v3 : IVec S272 1 := cmpi .sge main_v0 main_v2
  let main_v4 : IVec S272 32 := (extui 32 · natLt_1_32) main_v3
  let main_v5 : IVec S272 32 := addi main_v1 main_v4
  let main_c_1 : IVec S_ 32 := constantI S_ 32 6#32
  let main_v6 : IVec S272 32 := broadcastInDim S272 ![] bcast_S_S272 main_c_1
  let main_v7 : IVec S272 1 := cmpi .sge main_v0 main_v6
  let main_v8 : IVec S272 32 := (extui 32 · natLt_1_32) main_v7
  let main_v9 : IVec S272 32 := addi main_v5 main_v8
  let main_c_2 : IVec S_ 32 := constantI S_ 32 12#32
  let main_v10 : IVec S272 32 := broadcastInDim S272 ![] bcast_S_S272 main_c_2
  let main_v11 : IVec S272 1 := cmpi .sge main_v0 main_v10
  let main_v12 : IVec S272 32 := (extui 32 · natLt_1_32) main_v11
  let main_v13 : IVec S272 32 := addi main_v9 main_v12
  let main_c_3 : IVec S_ 32 := constantI S_ 32 20#32
  let main_v14 : IVec S272 32 := broadcastInDim S272 ![] bcast_S_S272 main_c_3
  let main_v15 : IVec S272 1 := cmpi .sge main_v0 main_v14
  let main_v16 : IVec S272 32 := (extui 32 · natLt_1_32) main_v15
  let main_v17 : IVec S272 32 := addi main_v13 main_v16
  let main_c_4 : IVec S_ 32 := constantI S_ 32 30#32
  fn_part1 (F := F) main_arg0 main_arg1 main_v0 main_v17 main_c_4
-- ==== Pre_finite_groups.lean ====
abbrev S36 : Shape := ⟨1, ![36]⟩
abbrev S1 : Shape := ⟨1, ![1]⟩
abbrev S18432x1152 : Shape := ⟨2, ![18432, 1152]⟩
abbrev S4x32x1024x256 : Shape := ⟨4, ![4, 32, 1024, 256]⟩
abbrev S4x4x2048x1024 : Shape := ⟨4, ![4, 4, 2048, 1024]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel
  bcast_S_S1 : S_.BroadcastsInDim S1 (![] : Fin 0 → Fin S1.rank)
  reducesTo_S1_S_d0 : S1.ReducesTo [0] S_
  bcast_S_S18432x1152 : S_.BroadcastsInDim S18432x1152 (![] : Fin 0 → Fin S18432x1152.rank)
  reducesTo_S18432x1152_S_d0_1 : S18432x1152.ReducesTo [0, 1] S_
  bcast_S_S4x32x1024x256 : S_.BroadcastsInDim S4x32x1024x256 (![] : Fin 0 → Fin S4x32x1024x256.rank)
  reducesTo_S4x32x1024x256_S_d0_1_2_3 : S4x32x1024x256.ReducesTo [0, 1, 2, 3] S_
  bcast_S_S4x4x2048x1024 : S_.BroadcastsInDim S4x4x2048x1024 (![] : Fin 0 → Fin S4x4x2048x1024.rank)
  reducesTo_S4x4x2048x1024_S_d0_1_2_3 : S4x4x2048x1024.ReducesTo [0, 1, 2, 3] S_

variable [Facts]

def fn_part1 {F : FTy → Type} [FloatOps F] (main_arg4 : FVec F S4x32x1024x256 .f32) (main_arg5 : FVec F S4x4x2048x1024 .f32) (main_v14 : IVec S_ 1) (main_v15 : FVec F S4x32x1024x256 .f32) (main_cst_5 : FVec F S_ .f32) : IVec S_ 1 :=
  let main_v16 : FVec F S4x32x1024x256 .f32 := broadcastInDim S4x32x1024x256 ![] bcast_S_S4x32x1024x256 main_cst_5
  let main_v17 : IVec S4x32x1024x256 1 := cmpf .olt main_v15 main_v16
  let main_c_6 : IVec S_ 1 := constantI S_ 1 1#1
  let main_v18 : IVec S_ 1 := (fun x v => Host.reduce IntOp.andi x v reducesTo_S4x32x1024x256_S_d0_1_2_3 h_S_) main_v17 main_c_6
  let main_v19 : IVec S_ 1 := andi main_v14 main_v18
  let main_v20 : FVec F S4x32x1024x256 .f32 := Host.absf main_arg4
  let main_cst_7 : FVec F S_ .f32 := constant S_ .f32 0x7F800000#32
  let main_v21 : FVec F S4x32x1024x256 .f32 := broadcastInDim S4x32x1024x256 ![] bcast_S_S4x32x1024x256 main_cst_7
  let main_v22 : IVec S4x32x1024x256 1 := cmpf .olt main_v20 main_v21
  let main_c_8 : IVec S_ 1 := constantI S_ 1 1#1
  let main_v23 : IVec S_ 1 := (fun x v => Host.reduce IntOp.andi x v reducesTo_S4x32x1024x256_S_d0_1_2_3 h_S_) main_v22 main_c_8
  let main_v24 : IVec S_ 1 := andi main_v19 main_v23
  let main_v25 : FVec F S4x4x2048x1024 .f32 := Host.absf main_arg5
  let main_cst_9 : FVec F S_ .f32 := constant S_ .f32 0x7F800000#32
  let main_v26 : FVec F S4x4x2048x1024 .f32 := broadcastInDim S4x4x2048x1024 ![] bcast_S_S4x4x2048x1024 main_cst_9
  let main_v27 : IVec S4x4x2048x1024 1 := cmpf .olt main_v25 main_v26
  let main_c_10 : IVec S_ 1 := constantI S_ 1 1#1
  let main_v28 : IVec S_ 1 := (fun x v => Host.reduce IntOp.andi x v reducesTo_S4x4x2048x1024_S_d0_1_2_3 h_S_) main_v27 main_c_10
  let main_v29 : IVec S_ 1 := andi main_v24 main_v28
  main_v29

def fn {F : FTy → Type} [FloatOps F] (main_arg0 : IVec S36 32) (main_arg1 : IVec S1 32) (main_arg2 : FVec F S18432x1152 .f32) (main_arg3 : FVec F S4x32x1024x256 .f32) (main_arg4 : FVec F S4x32x1024x256 .f32) (main_arg5 : FVec F S4x4x2048x1024 .f32) : IVec S_ 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 4#32
  let main_v2 : IVec S36 32 := broadcastInDim S36 ![] bcast_S_S36 main_c_0
  let main_v3 : IVec S36 1 := cmpi .slt main_arg0 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  let main_v10 : FVec F S18432x1152 .f32 := Host.absf main_arg2
  let main_cst : FVec F S_ .f32 := constant S_ .f32 0x7F800000#32
  let main_v11 : FVec F S18432x1152 .f32 := broadcastInDim S18432x1152 ![] bcast_S_S18432x1152 main_cst
  let main_v12 : IVec S18432x1152 1 := cmpf .olt main_v10 main_v11
  let main_c_4 : IVec S_ 1 := constantI S_ 1 1#1
  let main_v13 : IVec S_ 1 := (fun x v => Host.reduce IntOp.andi x v reducesTo_S18432x1152_S_d0_1 h_S_) main_v12 main_c_4
  let main_v14 : IVec S_ 1 := andi main_v9 main_v13
  let main_v15 : FVec F S4x32x1024x256 .f32 := Host.absf main_arg3
  let main_cst_5 : FVec F S_ .f32 := constant S_ .f32 0x7F800000#32
  fn_part1 (F := F) main_arg4 main_arg5 main_v14 main_v15 main_cst_5
-- ==== Pre_finite_with_ones.lean ====
abbrev S272 : Shape := ⟨1, ![272]⟩
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S272 : S_.BroadcastsInDim S272 (![] : Fin 0 → Fin S272.rank)
  natLt_1_32 : 1 < 32
  reducesTo_S272_S_d0 : S272.ReducesTo [0] S_
  h_S_ : 0 < S_.numel
  reducesTo_S16384x1024_S_d0_1 : S16384x1024.ReducesTo [0, 1] S_

variable [Facts]

def fn_part5 {F : FTy → Type} [FloatOps F] (main_v11 : IVec S16384x1024 1) (main_v88 : IVec S_ 1) (main_v92 : IVec S16384x1024 1) (main_c_24 : IVec S_ 1) : IVec S_ 1 :=
  let main_v93 : IVec S_ 1 := (fun x v => Host.reduce IntOp.andi x v reducesTo_S16384x1024_S_d0_1 h_S_) main_v92 main_c_24
  let main_v94 : IVec S_ 1 := andi main_v88 main_v93
  let main_c_25 : IVec S_ 1 := constantI S_ 1 1#1
  let main_v95 : IVec S_ 1 := (fun x v => Host.reduce IntOp.andi x v reducesTo_S16384x1024_S_d0_1 h_S_) main_v11 main_c_25
  let main_v96 : IVec S_ 1 := andi main_v94 main_v95
  main_v96

def fn_part4 {F : FTy → Type} [FloatOps F] (main_arg1 : IVec S272 32) (main_arg2 : FVec F S16384x1024 .bf16) (main_arg3 : FVec F S16384x1024 .bf16) (main_v11 : IVec S16384x1024 1) (main_v12 : IVec S272 32) (main_v73 : IVec S272 32) (main_v74 : IVec S272 1) (main_c_18 : IVec S_ 1) : IVec S_ 1 :=
  let main_v75 : IVec S_ 1 := (fun x v => Host.reduce IntOp.andi x v reducesTo_S272_S_d0 h_S_) main_v74 main_c_18
  let main_c_19 : IVec S_ 32 := constantI S_ 32 1#32
  let main_v76 : IVec S272 32 := broadcastInDim S272 ![] bcast_S_S272 main_c_19
  let main_v77 : IVec S272 32 := addi main_v73 main_v76
  let main_v78 : IVec S272 32 := muli main_v73 main_v77
  let main_v79 : IVec S272 32 := subi main_v12 main_v78
  let main_v80 : IVec S272 1 := cmpi .eq main_arg1 main_v79
  let main_c_20 : IVec S_ 1 := constantI S_ 1 1#1
  let main_v81 : IVec S_ 1 := (fun x v => Host.reduce IntOp.andi x v reducesTo_S272_S_d0 h_S_) main_v80 main_c_20
  let main_v82 : IVec S_ 1 := andi main_v75 main_v81
  let main_v83 : FVec F S16384x1024 .f32 := (extf .f32 · bitsLt_bf16_f32) main_arg2
  let main_v84 : FVec F S16384x1024 .f32 := Host.absf main_v83
  let main_cst_21 : FVec F S_ .f32 := constant S_ .f32 0x7F800000#32
  let main_v85 : FVec F S16384x1024 .f32 := broadcastInDim S16384x1024 ![] bcast_S_S16384x1024 main_cst_21
  let main_v86 : IVec S16384x1024 1 := cmpf .olt main_v84 main_v85
  let main_c_22 : IVec S_ 1 := constantI S_ 1 1#1
  let main_v87 : IVec S_ 1 := (fun x v => Host.reduce IntOp.andi x v reducesTo_S16384x1024_S_d0_1 h_S_) main_v86 main_c_22
  let main_v88 : IVec S_ 1 := andi main_v82 main_v87
  let main_v89 : FVec F S16384x1024 .f32 := (extf .f32 · bitsLt_bf16_f32) main_arg3
  let main_v90 : FVec F S16384x1024 .f32 := Host.absf main_v89
  let main_cst_23 : FVec F S_ .f32 := constant S_ .f32 0x7F800000#32
  let main_v91 : FVec F S16384x1024 .f32 := broadcastInDim S16384x1024 ![] bcast_S_S16384x1024 main_cst_23
  let main_v92 : IVec S16384x1024 1 := cmpf .olt main_v90 main_v91
  let main_c_24 : IVec S_ 1 := constantI S_ 1 1#1
  fn_part5 (F := F) main_v11 main_v88 main_v92 main_c_24

def fn_part3 {F : FTy → Type} [FloatOps F] (main_arg0 : IVec S272 32) (main_arg1 : IVec S272 32) (main_arg2 : FVec F S16384x1024 .bf16) (main_arg3 : FVec F S16384x1024 .bf16) (main_v11 : IVec S16384x1024 1) (main_v12 : IVec S272 32) (main_v53 : IVec S272 32) (main_v55 : IVec S272 1) : IVec S_ 1 :=
  let main_v56 : IVec S272 32 := (extui 32 · natLt_1_32) main_v55
  let main_v57 : IVec S272 32 := addi main_v53 main_v56
  let main_c_14 : IVec S_ 32 := constantI S_ 32 156#32
  let main_v58 : IVec S272 32 := broadcastInDim S272 ![] bcast_S_S272 main_c_14
  let main_v59 : IVec S272 1 := cmpi .sge main_v12 main_v58
  let main_v60 : IVec S272 32 := (extui 32 · natLt_1_32) main_v59
  let main_v61 : IVec S272 32 := addi main_v57 main_v60
  let main_c_15 : IVec S_ 32 := constantI S_ 32 182#32
  let main_v62 : IVec S272 32 := broadcastInDim S272 ![] bcast_S_S272 main_c_15
  let main_v63 : IVec S272 1 := cmpi .sge main_v12 main_v62
  let main_v64 : IVec S272 32 := (extui 32 · natLt_1_32) main_v63
  let main_v65 : IVec S272 32 := addi main_v61 main_v64
  let main_c_16 : IVec S_ 32 := constantI S_ 32 210#32
  let main_v66 : IVec S272 32 := broadcastInDim S272 ![] bcast_S_S272 main_c_16
  let main_v67 : IVec S272 1 := cmpi .sge main_v12 main_v66
  let main_v68 : IVec S272 32 := (extui 32 · natLt_1_32) main_v67
  let main_v69 : IVec S272 32 := addi main_v65 main_v68
  let main_c_17 : IVec S_ 32 := constantI S_ 32 240#32
  let main_v70 : IVec S272 32 := broadcastInDim S272 ![] bcast_S_S272 main_c_17
  let main_v71 : IVec S272 1 := cmpi .sge main_v12 main_v70
  let main_v72 : IVec S272 32 := (extui 32 · natLt_1_32) main_v71
  let main_v73 : IVec S272 32 := addi main_v69 main_v72
  let main_v74 : IVec S272 1 := cmpi .eq main_arg0 main_v73
  let main_c_18 : IVec S_ 1 := constantI S_ 1 1#1
  fn_part4 (F := F) main_arg1 main_arg2 main_arg3 main_v11 main_v12 main_v73 main_v74 main_c_18

def fn_part2 {F : FTy → Type} [FloatOps F] (main_arg0 : IVec S272 32) (main_arg1 : IVec S272 32) (main_arg2 : FVec F S16384x1024 .bf16) (main_arg3 : FVec F S16384x1024 .bf16) (main_v11 : IVec S16384x1024 1) (main_v12 : IVec S272 32) (main_v33 : IVec S272 32) (main_v36 : IVec S272 32) : IVec S_ 1 :=
  let main_v37 : IVec S272 32 := addi main_v33 main_v36
  let main_c_9 : IVec S_ 32 := constantI S_ 32 56#32
  let main_v38 : IVec S272 32 := broadcastInDim S272 ![] bcast_S_S272 main_c_9
  let main_v39 : IVec S272 1 := cmpi .sge main_v12 main_v38
  let main_v40 : IVec S272 32 := (extui 32 · natLt_1_32) main_v39
  let main_v41 : IVec S272 32 := addi main_v37 main_v40
  let main_c_10 : IVec S_ 32 := constantI S_ 32 72#32
  let main_v42 : IVec S272 32 := broadcastInDim S272 ![] bcast_S_S272 main_c_10
  let main_v43 : IVec S272 1 := cmpi .sge main_v12 main_v42
  let main_v44 : IVec S272 32 := (extui 32 · natLt_1_32) main_v43
  let main_v45 : IVec S272 32 := addi main_v41 main_v44
  let main_c_11 : IVec S_ 32 := constantI S_ 32 90#32
  let main_v46 : IVec S272 32 := broadcastInDim S272 ![] bcast_S_S272 main_c_11
  let main_v47 : IVec S272 1 := cmpi .sge main_v12 main_v46
  let main_v48 : IVec S272 32 := (extui 32 · natLt_1_32) main_v47
  let main_v49 : IVec S272 32 := addi main_v45 main_v48
  let main_c_12 : IVec S_ 32 := constantI S_ 32 110#32
  let main_v50 : IVec S272 32 := broadcastInDim S272 ![] bcast_S_S272 main_c_12
  let main_v51 : IVec S272 1 := cmpi .sge main_v12 main_v50
  let main_v52 : IVec S272 32 := (extui 32 · natLt_1_32) main_v51
  let main_v53 : IVec S272 32 := addi main_v49 main_v52
  let main_c_13 : IVec S_ 32 := constantI S_ 32 132#32
  let main_v54 : IVec S272 32 := broadcastInDim S272 ![] bcast_S_S272 main_c_13
  let main_v55 : IVec S272 1 := cmpi .sge main_v12 main_v54
  fn_part3 (F := F) main_arg0 main_arg1 main_arg2 main_arg3 main_v11 main_v12 main_v53 main_v55

def fn_part1 {F : FTy → Type} [FloatOps F] (main_arg0 : IVec S272 32) (main_arg1 : IVec S272 32) (main_arg2 : FVec F S16384x1024 .bf16) (main_arg3 : FVec F S16384x1024 .bf16) (main_v11 : IVec S16384x1024 1) (main_v12 : IVec S272 32) (main_v17 : IVec S272 32) : IVec S_ 1 :=
  let main_c_4 : IVec S_ 32 := constantI S_ 32 6#32
  let main_v18 : IVec S272 32 := broadcastInDim S272 ![] bcast_S_S272 main_c_4
  let main_v19 : IVec S272 1 := cmpi .sge main_v12 main_v18
  let main_v20 : IVec S272 32 := (extui 32 · natLt_1_32) main_v19
  let main_v21 : IVec S272 32 := addi main_v17 main_v20
  let main_c_5 : IVec S_ 32 := constantI S_ 32 12#32
  let main_v22 : IVec S272 32 := broadcastInDim S272 ![] bcast_S_S272 main_c_5
  let main_v23 : IVec S272 1 := cmpi .sge main_v12 main_v22
  let main_v24 : IVec S272 32 := (extui 32 · natLt_1_32) main_v23
  let main_v25 : IVec S272 32 := addi main_v21 main_v24
  let main_c_6 : IVec S_ 32 := constantI S_ 32 20#32
  let main_v26 : IVec S272 32 := broadcastInDim S272 ![] bcast_S_S272 main_c_6
  let main_v27 : IVec S272 1 := cmpi .sge main_v12 main_v26
  let main_v28 : IVec S272 32 := (extui 32 · natLt_1_32) main_v27
  let main_v29 : IVec S272 32 := addi main_v25 main_v28
  let main_c_7 : IVec S_ 32 := constantI S_ 32 30#32
  let main_v30 : IVec S272 32 := broadcastInDim S272 ![] bcast_S_S272 main_c_7
  let main_v31 : IVec S272 1 := cmpi .sge main_v12 main_v30
  let main_v32 : IVec S272 32 := (extui 32 · natLt_1_32) main_v31
  let main_v33 : IVec S272 32 := addi main_v29 main_v32
  let main_c_8 : IVec S_ 32 := constantI S_ 32 42#32
  let main_v34 : IVec S272 32 := broadcastInDim S272 ![] bcast_S_S272 main_c_8
  let main_v35 : IVec S272 1 := cmpi .sge main_v12 main_v34
  let main_v36 : IVec S272 32 := (extui 32 · natLt_1_32) main_v35
  fn_part2 (F := F) main_arg0 main_arg1 main_arg2 main_arg3 main_v11 main_v12 main_v33 main_v36

def fn {F : FTy → Type} [FloatOps F] (main_arg0 : IVec S272 32) (main_arg1 : IVec S272 32) (main_arg2 : FVec F S16384x1024 .bf16) (main_arg3 : FVec F S16384x1024 .bf16) (main_arg4 : FVec F S16384x1024 .bf16) : IVec S_ 1 :=
  let main_v0 : IVec S16384x1024 32 := iotaInDim S16384x1024 32 1
  let main_c : IVec S_ 32 := constantI S_ 32 255#32
  let main_v1 : IVec S16384x1024 32 := broadcastInDim S16384x1024 ![] bcast_S_S16384x1024 main_c
  let main_v2 : IVec S16384x1024 32 := andi main_v0 main_v1
  let main_v3 : FVec F S16384x1024 .f32 := (extf .f32 · bitsLt_bf16_f32) main_arg4
  let main_c_0 : IVec S_ 32 := constantI S_ 32 64#32
  let main_v4 : IVec S16384x1024 32 := broadcastInDim S16384x1024 ![] bcast_S_S16384x1024 main_c_0
  let main_v5 : IVec S16384x1024 1 := cmpi .ne main_v2 main_v4
  let main_c_1 : IVec S_ 32 := constantI S_ 32 128#32
  let main_v6 : IVec S16384x1024 32 := broadcastInDim S16384x1024 ![] bcast_S_S16384x1024 main_c_1
  let main_v7 : IVec S16384x1024 1 := cmpi .ne main_v2 main_v6
  let main_v8 : IVec S16384x1024 1 := andi main_v5 main_v7
  let main_cst : FVec F S_ .f32 := constant S_ .f32 0x3F800000#32
  let main_v9 : FVec F S16384x1024 .f32 := broadcastInDim S16384x1024 ![] bcast_S_S16384x1024 main_cst
  let main_v10 : IVec S16384x1024 1 := cmpf .oeq main_v3 main_v9
  let main_v11 : IVec S16384x1024 1 := ori main_v8 main_v10
  let main_v12 : IVec S272 32 := iotaInDim S272 32 0
  let main_c_2 : IVec S_ 32 := constantI S_ 32 0#32
  let main_v13 : IVec S272 32 := broadcastInDim S272 ![] bcast_S_S272 main_c_2
  let main_c_3 : IVec S_ 32 := constantI S_ 32 2#32
  let main_v14 : IVec S272 32 := broadcastInDim S272 ![] bcast_S_S272 main_c_3
  let main_v15 : IVec S272 1 := cmpi .sge main_v12 main_v14
  let main_v16 : IVec S272 32 := (extui 32 · natLt_1_32) main_v15
  let main_v17 : IVec S272 32 := addi main_v13 main_v16
  fn_part1 (F := F) main_arg0 main_arg1 main_arg2 main_arg3 main_v11 main_v12 main_v17
-- ==== Pre_groups_in_range.lean ====
abbrev S36 : Shape := ⟨1, ![36]⟩
abbrev S1 : Shape := ⟨1, ![1]⟩
abbrev S18432x1152 : Shape := ⟨2, ![18432, 1152]⟩
abbrev S4x32x1024x256 : Shape := ⟨4, ![4, 32, 1024, 256]⟩
abbrev S4x4x2048x1024 : Shape := ⟨4, ![4, 4, 2048, 1024]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S36 32) (main_arg1 : IVec S1 32) (main_arg2 : FVec F S18432x1152 .f32) (main_arg3 : FVec F S4x32x1024x256 .f32) (main_arg4 : FVec F S4x32x1024x256 .f32) (main_arg5 : FVec F S4x4x2048x1024 .f32) : IVec S_ 1 :=
  let main_c : IVec S_ 32 := constantI S_ 32 0#32
  let main_v0 : IVec S36 32 := broadcastInDim S36 ![] bcast_S_S36 main_c
  let main_v1 : IVec S36 1 := cmpi .sge main_arg0 main_v0
  let main_c_0 : IVec S_ 32 := constantI S_ 32 4#32
  let main_v2 : IVec S36 32 := broadcastInDim S36 ![] bcast_S_S36 main_c_0
  let main_v3 : IVec S36 1 := cmpi .slt main_arg0 main_v2
  let main_v4 : IVec S36 1 := andi main_v1 main_v3
  let main_c_1 : IVec S_ 1 := constantI S_ 1 1#1
  let main_v5 : IVec S_ 1 := (fun x v => Host.reduce IntOp.andi x v reducesTo_S36_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Latent.lean ====
abbrev S272 : Shape := ⟨1, ![272]⟩
abbrev S16384x1024 : Shape := ⟨2, ![16384, 1024]⟩
abbrev S16384x512 : Shape := ⟨2, ![16384, 512]⟩
abbrev S1024x1024 : Shape := ⟨2, ![1024, 1024]⟩
abbrev S1 : Shape := ⟨1, ![1]⟩
abbrev S512x1024 : Shape := ⟨2, ![512, 1024]⟩
abbrev S1024x512 : Shape := ⟨2, ![1024, 512]⟩
abbrev S8x1024x128 : Shape := ⟨3, ![8, 1024, 128]⟩
abbrev S1024x128 : Shape := ⟨2, ![1024, 128]⟩
abbrev S512x128 : Shape := ⟨2, ![512, 128]⟩
abbrev S1x1024x128 : Shape := ⟨3, ![1, 1024, 128]⟩
abbrev S1024 : Shape := ⟨1, ![1024]⟩
abbrev S1024x1 : Shape := ⟨2, ![1024, 1]⟩

abbrev nBuf : Space → Nat
  | .hbm => 4
  | .vmem => 10
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1024x512, .bf16⟩
  | .local _ .vmem, ⟨8, _⟩ => ⟨S8x1024x128, .f32⟩
  | .local _ .vmem, ⟨9, _⟩ => ⟨S8x1024x128, .f32⟩
  | .local _ .smem, ⟨0, _⟩ => ⟨S272, .i32⟩
  | .local _ .smem, ⟨1, _⟩ => ⟨S272, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) (v3 : BitVec 32) : BitVec 1 :=
  let c2_i32_4 : BitVec 32 := 2#32
  let v18 : BitVec 32 := Scalar.muli v1 c2_i32_4
  let c2_i32_5 : BitVec 32 := 2#32
  let v19 : BitVec 32 := Scalar.addi v18 c2_i32_5
  let c1_i32 : BitVec 32 := 1#32
  let v20 : BitVec 32 := Scalar.subi v19 c1_i32
  let v21 : BitVec 1 := Scalar.cmpi .eq v3 v20
  let v22 : BitVec 32 := Scalar.extui v21
  let c0_i32_6 : BitVec 32 := 0#32
  let v23 : BitVec 1 := Scalar.cmpi .ne v22 c0_i32_6
  v23

def cc0_transform_0 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S272) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LatentIdeal.lean ====
variable {F : FTy → Type} [FloatOps F] [Named F]
def κ : String → Option EReal := fun
  | "mask" => some ⊥
  | _ => none
-- ==== LatentRefIdeal.lean ====
abbrev S272 : Shape := ⟨1, ![272]⟩
abbrev S16384x1024 : Shape := ⟨2, ![16384, 1024]⟩
abbrev S16384x8x128 : Shape := ⟨3, ![16384, 8, 128]⟩
abbrev S16384x4x2x128 : Shape := ⟨4, ![16384, 4, 2, 128]⟩
abbrev S16384x4x1x64 : Shape := ⟨4, ![16384, 4, 1, 64]⟩
abbrev S16384x4x64 : Shape := ⟨3, ![16384, 4, 64]⟩
abbrev S16384x4x2x64 : Shape := ⟨4, ![16384, 4, 2, 64]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x512 : Shape := ⟨2, ![16384, 512]⟩

abbrev nBuf : Space → Nat
  | .hbm => 53
  | .vmem => 0
  | .smem => 0
  | _ => 0

abbrev bufTy : (tb : Table) → Fin (tcTables nBuf tb) → BufTy
  | .hbm, ⟨0, _⟩ => ⟨S272, .i32⟩
  | .hbm, ⟨1, _⟩ => ⟨S272, .i32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .f32⟩
  | .hbm, ⟨6, _⟩ => ⟨S16384x8x128, .f32⟩
  | .hbm, ⟨7, _⟩ => ⟨S16384x1024, .f32⟩
  | .hbm, ⟨8, _⟩ => ⟨S16384x8x128, .f32⟩
  | .hbm, ⟨9, _⟩ => ⟨S16384x1024, .f32⟩
  | .hbm, ⟨10, _⟩ => ⟨S16384x4x2x128, .f32⟩
  | .hbm, ⟨11, _⟩ => ⟨S16384x4x1x64, .f32⟩
  | .hbm, ⟨12, _⟩ => ⟨S16384x4x64, .f32⟩
  | .hbm, ⟨13, _⟩ => ⟨S16384x4x1x64, .f32⟩
  | .hbm, ⟨14, _⟩ => ⟨S16384x4x64, .f32⟩
  | .hbm, ⟨15, _⟩ => ⟨S16384x4x1x64, .f32⟩
  | .hbm, ⟨16, _⟩ => ⟨S16384x4x1x64, .f32⟩
  | .hbm, ⟨17, _⟩ => ⟨S16384x4x2x64, .f32⟩
  | .hbm, ⟨18, _⟩ => ⟨S16384x8x64, .f32⟩
  | .hbm, ⟨19, _⟩ => ⟨S8x16384x16384, .f32⟩
  | .hbm, ⟨20, _⟩ => ⟨S_, .f32⟩
  | .hbm, ⟨21, _⟩ => ⟨S_, .f32⟩
  | .hbm, ⟨22, _⟩ => ⟨S8x16384x16384, .f32⟩
  | .hbm, ⟨23, _⟩ => ⟨S8x16384x16384, .f32⟩
  | .hbm, ⟨24, _⟩ => ⟨S16384, .i32⟩
  | .hbm, ⟨25, _⟩ => ⟨S1x16384, .i32⟩
  | .hbm, ⟨26, _⟩ => ⟨S16384x1, .i32⟩
  | .hbm, ⟨27, _⟩ => ⟨S16384x16384, .i32⟩
  | .hbm, ⟨28, _⟩ => ⟨S16384x16384, .i32⟩
  | .hbm, ⟨29, _⟩ => ⟨S16384x16384, .i1⟩
  | .hbm, ⟨30, _⟩ => ⟨S_, .f32⟩
  | .hbm, ⟨31, _⟩ => ⟨S_, .f32⟩
  | .hbm, ⟨32, _⟩ => ⟨S8x16384x16384, .i1⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S8x16384, .f32⟩
  | .hbm, ⟨37, _⟩ => ⟨S_, .f32⟩
  | .hbm, ⟨38, _⟩ => ⟨S8x16384, .f32⟩
  | .hbm, ⟨39, _⟩ => ⟨S8x16384, .f32⟩
  | .hbm, ⟨40, _⟩ => ⟨S8x16384x1, .f32⟩
  | .hbm, ⟨41, _⟩ => ⟨S8x16384x16384, .f32⟩
  | .hbm, ⟨42, _⟩ => ⟨S8x16384x16384, .f32⟩
  | .hbm, ⟨43, _⟩ => ⟨S8x16384x16384, .f32⟩
  | .hbm, ⟨44, _⟩ => ⟨S_, .f32⟩
  | .hbm, ⟨45, _⟩ => ⟨S8x16384, .f32⟩
  | .hbm, ⟨46, _⟩ => ⟨S8x16384x1, .f32⟩
  | .hbm, ⟨47, _⟩ => ⟨S8x16384x16384, .f32⟩
  | .hbm, ⟨48, _⟩ => ⟨S8x16384x16384, .f32⟩
  | .hbm, ⟨49, _⟩ => ⟨S8x64x16384, .f32⟩
  | .hbm, ⟨50, _⟩ => ⟨S16384x8x64, .f32⟩
  | .hbm, ⟨51, _⟩ => ⟨S16384x512, .f32⟩
  | .hbm, ⟨52, _⟩ => ⟨S16384x512, .bf16⟩
  | _, _ => ⟨S272, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Experts.lean ====
abbrev S36 : Shape := ⟨1, ![36]⟩
abbrev S1 : Shape := ⟨1, ![1]⟩
abbrev S18432x1152 : Shape := ⟨2, ![18432, 1152]⟩
abbrev S4x32x1024x256 : Shape := ⟨4, ![4, 32, 1024, 256]⟩
abbrev S4x4x2048x1024 : Shape := ⟨4, ![4, 4, 2048, 1024]⟩
abbrev S18432x1024 : Shape := ⟨2, ![18432, 1024]⟩
abbrev S512x1152 : Shape := ⟨2, ![512, 1152]⟩
abbrev S1x8x1024x256 : Shape := ⟨4, ![1, 8, 1024, 256]⟩
abbrev S1x1x2048x1024 : Shape := ⟨4, ![1, 1, 2048, 1024]⟩
abbrev S512x1024 : Shape := ⟨2, ![512, 1024]⟩
abbrev S512x2048 : Shape := ⟨2, ![512, 2048]⟩
abbrev S512x128 : Shape := ⟨2, ![512, 128]⟩
abbrev S1x1x1024x256 : Shape := ⟨4, ![1, 1, 1024, 256]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩

abbrev nBuf : Space → Nat
  | .hbm => 5
  | .vmem => 11
  | .smem => 2
  | _ => 0

abbrev bufTy : (tb : Table) → Fin (tcTables nBuf tb) → BufTy
  | .hbm, ⟨0, _⟩ => ⟨S18432x1152, .f32⟩
  | .hbm, ⟨1, _⟩ => ⟨S4x32x1024x256, .f32⟩
  | .hbm, ⟨2, _⟩ => ⟨S4x32x1024x256, .f32⟩
  | .hbm, ⟨3, _⟩ => ⟨S4x4x2048x1024, .f32⟩
  | .hbm, ⟨4, _⟩ => ⟨S18432x1024, .f32⟩
  | .local _ .vmem, ⟨0, _⟩ => ⟨S512x1152, .f32⟩
  | .local _ .vmem, ⟨1, _⟩ => ⟨S512x1152, .f32⟩
  | .local _ .vmem, ⟨2, _⟩ => ⟨S1x8x1024x256, .f32⟩
  | .local _ .vmem, ⟨3, _⟩ => ⟨S1x8x1024x256, .f32⟩
  | .local _ .vmem, ⟨4, _⟩ => ⟨S1x8x1024x256, .f32⟩
  | .local _ .vmem, ⟨5, _⟩ => ⟨S1x8x1024x256, .f32⟩
  | .local _ .vmem, ⟨6, _⟩ => ⟨S1x1x2048x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x2048, .bf16⟩
  | .local _ .smem, ⟨0, _⟩ => ⟨S36, .i32⟩
  | .local _ .smem, ⟨1, _⟩ => ⟨S1, .i32⟩
  | _, _ => ⟨S18432x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![36, 1], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond11 (i : grid0.Coords) : BitVec 1 :=
  let arg1 : BitVec 32 := BitVec.ofNat 32 (i 1).val
  let c0_i32_120 : BitVec 32 := 0#32
  let v216 : BitVec 1 := Scalar.cmpi .eq arg1 c0_i32_120
  let v217 : BitVec 32 := Scalar.extui v216
  let c0_i32_121 : BitVec 32 := 0#32
  let v218 : BitVec 1 := Scalar.cmpi .ne v217 c0_i32_121
  v218

def k0_cond12 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c1_i32 : BitVec 32 := 1#32
  let v2 : BitVec 32 := Scalar.muli v1 c1_i32
  let v3 : BitVec 32 := Scalar.addi v2 arg1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c1_i32 : BitVec 32 := 1#32
  let v2 : BitVec 32 := Scalar.muli v1 c1_i32
  let v3 : BitVec 32 := Scalar.addi v2 arg1
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S36 : Shape := ⟨1, ![36]⟩
abbrev S1 : Shape := ⟨1, ![1]⟩
abbrev S18432x1152 : Shape := ⟨2, ![18432, 1152]⟩
abbrev S4x32x1024x256 : Shape := ⟨4, ![4, 32, 1024, 256]⟩
abbrev S4x4x2048x1024 : Shape := ⟨4, ![4, 4, 2048, 1024]⟩
abbrev S18432x1024 : Shape := ⟨2, ![18432, 1024]⟩
abbrev S18432x8 : Shape := ⟨2, ![18432, 8]⟩
abbrev S36x512 : Shape := ⟨2, ![36, 512]⟩
abbrev S18432 : Shape := ⟨1, ![18432]⟩
abbrev S_ : Shape := ⟨0, ![]⟩
abbrev S4 : Shape := ⟨1, ![4]⟩
abbrev S4x8 : Shape := ⟨2, ![4, 8]⟩
abbrev S32 : Shape := ⟨1, ![32]⟩
abbrev S1x32 : Shape := ⟨2, ![1, 32]⟩
abbrev S18432x1 : Shape := ⟨2, ![18432, 1]⟩
abbrev S18432x32 : Shape := ⟨2, ![18432, 32]⟩
abbrev S1x18432x1x8 : Shape := ⟨4, ![1, 18432, 1, 8]⟩
abbrev S1x18432x4x8 : Shape := ⟨4, ![1, 18432, 4, 8]⟩
abbrev S1x4x2048x1024 : Shape := ⟨4, ![1, 4, 2048, 1024]⟩
abbrev S4x2048x1024 : Shape := ⟨3, ![4, 2048, 1024]⟩
abbrev S32x256x1024 : Shape := ⟨3, ![32, 256, 1024]⟩
abbrev S1x32x1024x256 : Shape := ⟨4, ![1, 32, 1024, 256]⟩
abbrev S32x1024x256 : Shape := ⟨3, ![32, 1024, 256]⟩
abbrev S32x256x18432 : Shape := ⟨3, ![32, 256, 18432]⟩
abbrev S32x18432x256 : Shape := ⟨3, ![32, 18432, 256]⟩
abbrev S32x18432x1024 : Shape := ⟨3, ![32, 18432, 1024]⟩
abbrev S32x18432 : Shape := ⟨2, ![32, 18432]⟩
abbrev S32x18432x1 : Shape := ⟨3, ![32, 18432, 1]⟩

abbrev nBuf : Space → Nat
  | .hbm => 62
  | .vmem => 0
  | .smem => 0
  | _ => 0

abbrev bufTy : (tb : Table) → Fin (tcTables nBuf tb) → BufTy
  | .hbm, ⟨0, _⟩ => ⟨S36, .i32⟩
  | .hbm, ⟨1, _⟩ => ⟨S1, .i32⟩
  | .hbm, ⟨2, _⟩ => ⟨S18432x1152, .f32⟩
  | .hbm, ⟨3, _⟩ => ⟨S4x32x1024x256, .f32⟩
  | .hbm, ⟨4, _⟩ => ⟨S4x32x1024x256, .f32⟩
  | .hbm, ⟨5, _⟩ => ⟨S4x4x2048x1024, .f32⟩
  | .hbm, ⟨6, _⟩ => ⟨S18432x1024, .f32⟩
  | .hbm, ⟨7, _⟩ => ⟨S18432x8, .f32⟩
  | .hbm, ⟨8, _⟩ => ⟨S36x512, .i32⟩
  | .hbm, ⟨9, _⟩ => ⟨S18432, .i32⟩
  | .hbm, ⟨10, _⟩ => ⟨S36, .i32⟩
  | .hbm, ⟨11, _⟩ => ⟨S36x512, .i32⟩
  | .hbm, ⟨12, _⟩ => ⟨S18432, .i32⟩
  | .hbm, ⟨13, _⟩ => ⟨S_, .i32⟩
  | .hbm, ⟨14, _⟩ => ⟨S18432, .i32⟩
  | .hbm, ⟨15, _⟩ => ⟨S18432, .i1⟩
  | .hbm, ⟨16, _⟩ => ⟨S4, .i32⟩
  | .hbm, ⟨17, _⟩ => ⟨S4x8, .i32⟩
  | .hbm, ⟨18, _⟩ => ⟨S32, .i32⟩
  | .hbm, ⟨19, _⟩ => ⟨S1x32, .i32⟩
  | .hbm, ⟨20, _⟩ => ⟨S18432x1, .i32⟩
  | .hbm, ⟨21, _⟩ => ⟨S18432x32, .i32⟩
  | .hbm, ⟨22, _⟩ => ⟨S18432x32, .i32⟩
  | .hbm, ⟨23, _⟩ => ⟨S18432x32, .i1⟩
  | .hbm, ⟨24, _⟩ => ⟨S18432x1, .i1⟩
  | .hbm, ⟨25, _⟩ => ⟨S18432x32, .i1⟩
  | .hbm, ⟨26, _⟩ => ⟨S18432x32, .i1⟩
  | .hbm, ⟨27, _⟩ => ⟨S1x18432x1x8, .f32⟩
  | .hbm, ⟨28, _⟩ => ⟨S1x18432x4x8, .f32⟩
  | .hbm, ⟨29, _⟩ => ⟨S18432x32, .f32⟩
  | .hbm, ⟨30, _⟩ => ⟨S_, .f32⟩
  | .hbm, ⟨31, _⟩ => ⟨S_, .f32⟩
  | .hbm, ⟨32, _⟩ => ⟨S18432x32, .f32⟩
  | .hbm, ⟨33, _⟩ => ⟨S18432x32, .f32⟩
  | .hbm, ⟨34, _⟩ => ⟨S1x4x2048x1024, .f32⟩
  | .hbm, ⟨35, _⟩ => ⟨S4x2048x1024, .f32⟩
  | .hbm, ⟨36, _⟩ => ⟨S32x256x1024, .f32⟩
  | .hbm, ⟨37, _⟩ => ⟨S1x32x1024x256, .f32⟩
  | .hbm, ⟨38, _⟩ => ⟨S32x1024x256, .f32⟩
  | .hbm, ⟨39, _⟩ => ⟨S32x256x18432, .f32⟩
  | .hbm, ⟨40, _⟩ => ⟨S32x18432x256, .f32⟩
  | .hbm, ⟨41, _⟩ => ⟨S32x18432x256, .f32⟩
  | .hbm, ⟨42, _⟩ => ⟨S32x18432x256, .f32⟩
  | .hbm, ⟨43, _⟩ => ⟨S_, .f32⟩
  | .hbm, ⟨44, _⟩ => ⟨S32x18432x256, .f32⟩
  | .hbm, ⟨45, _⟩ => ⟨S32x18432x256, .f32⟩
  | .hbm, ⟨46, _⟩ => ⟨S_, .f32⟩
  | .hbm, ⟨47, _⟩ => ⟨S32x18432x256, .f32⟩
  | .hbm, ⟨48, _⟩ => ⟨S32x18432x256, .f32⟩
  | .hbm, ⟨49, _⟩ => ⟨S32x18432x256, .f32⟩
  | .hbm, ⟨50, _⟩ => ⟨S1x32x1024x256, .f32⟩
  | .hbm, ⟨51, _⟩ => ⟨S32x1024x256, .f32⟩
  | .hbm, ⟨52, _⟩ => ⟨S32x256x18432, .f32⟩
  | .hbm, ⟨53, _⟩ => ⟨S32x18432x256, .f32⟩
  | .hbm, ⟨54, _⟩ => ⟨S32x18432x256, .f32⟩
  | .hbm, ⟨55, _⟩ => ⟨S32x18432x1024, .f32⟩
  | .hbm, ⟨56, _⟩ => ⟨S32x18432, .f32⟩
  | .hbm, ⟨57, _⟩ => ⟨S32x18432x1, .f32⟩
  | .hbm, ⟨58, _⟩ => ⟨S32x18432x1024, .f32⟩
  | .hbm, ⟨59, _⟩ => ⟨S32x18432x1024, .f32⟩
  | .hbm, ⟨60, _⟩ => ⟨S_, .f32⟩
  | .hbm, ⟨61, _⟩ => ⟨S18432x1024, .f32⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_0 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.ExpertsPre.lean ====
module

public import proofs.«01_k».proof.Defs
public import proofs.«01_k».proof.Proof.Gen.Pre_groups_in_range
public import proofs.«01_k».proof.Proof.Gen.Pre_finite_groups
public import Idealize.ShloMosaic.Lib.ReduceAll
public import Idealize.ShloMosaic.Lib.ValueIdx

@[expose] public section

set_option maxRecDepth 16384

noncomputable section

namespace Cert.ExpertsPre

open Idealize.ShloMosaic

/-- A conjunction of two bits is one exactly when both are. -/
theorem and_one {p q : BitVec 1} (h : IntOp.andi p q = 1#1) : p = 1#1 ∧ q = 1#1 := by
  revert p q
  decide

/-- A truth value's bit is one exactly when it is true. -/
theorem bit_one {p : Bool} (h : BitVec.ofBool p = 1#1) : p = true := by
  cases p
  · exact absurd h (by decide)
  · rfl

/-- A word between zero and four as a signed number is below four as a natural number. -/
theorem lt_four {w : BitVec 32} (h0 : (0#32).sle w = true) (h4 : w.slt 4#32 = true) : w.toNat < 4 := by
  simp only [BitVec.sle, BitVec.slt, decide_eq_true_eq, BitVec.toInt, BitVec.toNat_ofNat] at h0 h4
  omega

/-- A word at least one as a signed number. -/
theorem one_le {w : BitVec 32} (h : (1#32).sle w = true) : 1 ≤ w.toInt := by
  have h' : (1#32).toInt ≤ w.toInt := by simpa only [BitVec.sle, decide_eq_true_eq] using h
  exact h'

/-- An extended real whose absolute value lies below infinity is real. -/
theorem real_of_abs {a : EReal} (h : BitVec.ofBool (decide (max a (-a) < Ideal.ofBits .f32 0x7F800000#32)) = 1#1) : ∃ r : ℝ, a = (r : EReal) := by
  have e : Ideal.ofBits .f32 0x7F800000#32 = (⊤ : EReal) := by
    show Ideal.ieee 8 23 0x7F800000#32 = _
    simp [Ideal.ieee]
  rw [e] at h
  have h' := of_decide_eq_true (bit_one h)
  induction a using EReal.rec with
  | bot => exact absurd h' (by simp)
  | coe r => exact ⟨r, rfl⟩
  | top => exact absurd h' (by simp)

instance : Subsingleton Cert.Pre_groups_in_range.S_.Idx := ⟨fun a b => funext fun x => x.elim0⟩
instance : Subsingleton Cert.Pre_finite_groups.S_.Idx := ⟨fun a b => funext fun x => x.elim0⟩

/-- The tables' condition, read. -/
theorem in_range {F : FTy → Type} [FloatOps F] {a0 a1 a2 a3 a4 a5}
    (h : Cert.Pre_groups_in_range.fn (F := F) a0 a1 a2 a3 a4 a5 = fun _ => 1#1) :
    (∀ x, (a0 x).toNat < 4) ∧ (∀ x, 1 ≤ (a1 x).toInt) := by
  have e := congrFun h (fun a => a.elim0)
  obtain ⟨e1, e2⟩ := and_one e
  constructor
  · intro x
    obtain ⟨p, q⟩ := and_one (Host.reduce_andi_all _ _ _ _ _ e1 x)
    exact lt_four (bit_one p) (bit_one q)
  · intro x
    exact one_le (bit_one (Host.reduce_andi_all _ _ _ _ _ e2 x))

/-- The tables' condition together with finite arrays, read. -/
theorem finite_in_range {a0 a1 a2 a3 a4 a5}
    (h : Cert.Pre_finite_groups.fn (F := Ideal) a0 a1 a2 a3 a4 a5 = fun _ => 1#1) :
    ((∀ x, (a0 x).toNat < 4) ∧ (∀ x, 1 ≤ (a1 x).toInt)) ∧ (∀ x, ∃ r : ℝ, a2 x = (r : EReal)) ∧ (∀ x, ∃ r : ℝ, a3 x = (r : EReal))
      ∧ (∀ x, ∃ r : ℝ, a4 x = (r : EReal)) ∧ (∀ x, ∃ r : ℝ, a5 x = (r : EReal)) := by
  have e := congrFun h (fun a => a.elim0)
  obtain ⟨e, e5⟩ := and_one e
  obtain ⟨e, e4⟩ := and_one e
  obtain ⟨e, e3⟩ := and_one e
  obtain ⟨e, e2⟩ := and_one e
  obtain ⟨e0, e1⟩ := and_one e
  refine ⟨⟨fun x => ?_, fun x => one_le (bit_one (Host.reduce_andi_all _ _ _ _ _ e1 x))⟩,
    fun x => real_of_abs (Host.reduce_andi_all _ _ _ _ _ e2 x), fun x => real_of_abs (Host.reduce_andi_all _ _ _ _ _ e3 x),
    fun x => real_of_abs (Host.reduce_andi_all _ _ _ _ _ e4 x), fun x => real_of_abs (Host.reduce_andi_all _ _ _ _ _ e5 x)⟩
  obtain ⟨p, q⟩ := and_one (Host.reduce_andi_all _ _ _ _ _ e0 x)
  exact lt_four (bit_one p) (bit_one q)

end Cert.ExpertsPre

end
-- ==== Proof.LatentPre.lean ====
module

public import proofs.«01_k».proof.Proof.ExpertsPre
public import proofs.«01_k».proof.Proof.Gen.Pre_causal_schedule
public import proofs.«01_k».proof.Proof.Gen.Latent.Flash.Pins
public import proofs.«01_k».proof.Proof.Gen.LatentIdeal.Flash.Pins
public import Idealize.ShloMosaic.Lib.Pointwise

@[expose] public section

set_option maxRecDepth 16384

noncomputable section

namespace Cert.LatentPre

open Idealize.ShloMosaic Idealize.ShloMosaic.TcCoe Cert.ExpertsPre

instance : Subsingleton Cert.Pre_causal_schedule.S_.Idx := ⟨fun a b => funext fun x => x.elim0⟩

/-- A word equal to another. -/
theorem eq_of_bit {a b : BitVec 32} (h : BitVec.ofBool (a == b) = 1#1) : a = b := beq_iff_eq.mp (bit_one h)

/-- The tables' condition, read: the row table. -/
theorem rows {F : FTy → Type} [FloatOps F] {a0 a1 a2 a3 a4} (h : Cert.Pre_causal_schedule.fn (F := F) a0 a1 a2 a3 a4 = fun _ => 1#1)
    (n : Fin 272) : a0 (ix1 n) = Cert.LatentIdeal.Gen.pinT_0 0 (ix1 n) := by
  obtain ⟨e1, -⟩ := and_one (congrFun h (fun a => a.elim0))
  refine (eq_of_bit (Host.reduce_andi_all _ _ _ _ _ e1 (ix1 n))).trans ?_
  clear e1 h
  revert n
  decide +kernel

/-- The tables' condition, read: the column table. -/
theorem cols {F : FTy → Type} [FloatOps F] {a0 a1 a2 a3 a4} (h : Cert.Pre_causal_schedule.fn (F := F) a0 a1 a2 a3 a4 = fun _ => 1#1)
    (n : Fin 272) : a1 (ix1 n) = Cert.LatentIdeal.Gen.pinT_1 0 (ix1 n) := by
  obtain ⟨-, e2⟩ := and_one (congrFun h (fun a => a.elim0))
  refine (eq_of_bit (Host.reduce_andi_all _ _ _ _ _ e2 (ix1 n))).trans ?_
  clear e2 h
  revert n
  decide +kernel

/-- The rows of a one-dimensional table. -/
theorem ext1 {f g : Cert.LatentIdeal.S272.Idx → BitVec 32} (h : ∀ n : Fin 272, f (ix1 n) = g (ix1 n)) : f = g := by
  refine funext fun x => ?_
  obtain ⟨n, rfl⟩ : ∃ n : Fin 272, x = ix1 n := ⟨x 0, by funext a; fin_cases a; rfl⟩
  exact h n

/-- The precondition's tables, over the machine's numbers. -/
theorem pinned_bits (m : (ℓ : Loc Cert.Latent.nD Cert.Latent.τ Cert.Latent.sig) → Buf (Elt Bits) ℓ)
    (h : Cert.Pre_Latent (hPre_causal_schedule := Cert.Pre_causal_schedule.Gen.facts) m) : Cert.Latent.Gen.Pinned 0 m :=
  ⟨fun c => (ext1 (rows (h c)) :), fun c => (ext1 (cols (h c)) :)⟩

/-- The precondition's tables, over the exact numbers. -/
theorem pinned_ideal (m : (ℓ : Loc Cert.LatentIdeal.nD Cert.LatentIdeal.τ Cert.LatentIdeal.sig) → Buf (Elt Ideal) ℓ)
    (h : Cert.Pre_LatentIdeal (hPre_causal_schedule := Cert.Pre_causal_schedule.Gen.facts) m) : Cert.LatentIdeal.Gen.Pinned 0 m :=
  ⟨fun c => ext1 (rows (h c)), fun c => ext1 (cols (h c))⟩

end Cert.LatentPre

end
-- ==== Proof.LatentClaims.lean ====
module

public import proofs.«01_k».proof.Proof.LatentPre
public import proofs.«01_k».proof.Proof.Gen.Latent.Flash
public import proofs.«01_k».proof.Proof.Gen.LatentIdeal.Flash
public import proofs.«01_k».proof.Proof.Gen.LatentRefIdeal.Run

@[expose] public section

noncomputable section

namespace Cert.LatentClaims

open Idealize.ShloMosaic Idealize.ShloMosaic.TcCoe Idealize.SL.Sem

/-- The kernel terminates without fault, over the machine's numbers. -/
theorem frame_bits : Cert.quiescent_Latent (hLatent := Cert.Latent.Gen.facts) (hPre_causal_schedule := Cert.Pre_causal_schedule.Gen.facts) := by
  intro m g hp
  exact Cert.Latent.Gen.frame 0 m g (Cert.LatentPre.pinned_bits m hp)

/-- The kernel terminates without fault, over the exact numbers. -/
theorem frame_ideal : Cert.quiescent_LatentIdeal (hLatentIdeal := Cert.LatentIdeal.Gen.facts) (hPre_causal_schedule := Cert.Pre_causal_schedule.Gen.facts) := by
  intro m g hp
  exact Cert.LatentIdeal.Gen.frame 0 m g (Cert.LatentPre.pinned_ideal m hp)

/-- The reference terminates without fault. -/
theorem frame_ref : Cert.quiescent_LatentRefIdeal (hLatentRefIdeal := Cert.LatentRefIdeal.Gen.facts) := by
  intro m g _
  exact (θ_run Cert.LatentRefIdeal.defs _ _).mono (fun r h => ⟨fun c => (h c).2, sem_eq_zero_of_no_sems (by decide) r.2⟩)
    (Cert.LatentRefIdeal.Value.run (F := Ideal) m g)

/-- The mask's constant reads as minus infinity over the exact numbers. -/
theorem keeps : Cert.preserves_Latent_LatentIdeal :=
  IdealRules.named_const.statement Cert.LatentIdeal.κ "mask" .f32 0xF149F2CA#32 ⊥ rfl

end Cert.LatentClaims

end
-- ==== Proof.LatentTile.lean ====
module

public import proofs.«01_k».proof.Proof.Gen.LatentIdeal.Flash
public import Idealize.ShloMosaic.Lib.Pointwise
public import Idealize.ShloMosaic.Lib.Pipeline.Value
public import Idealize.ShloMosaic.Lib.Pipeline.ReadBack
public import Idealize.ShloMosaic.Lib.Tactic.RunNames

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

/-- One head's scores of the query block against the key block. -/
def scO (a : Vec Ideal S1024x128 .bf16) (b : Vec Ideal S512x128 .bf16) : FVec Ideal S1024x512 .f32 :=
  matmul (F := Ideal) (φ₁ := .bf16) (φ₂ := .bf16) dot_S1024x128_S512x128_S1024x512_1_1_0_0_n_n none a b (constant S1024x512 .f32 0x00000000#32)

/-- The running maximum of one head after a key block whose scores are the four columns. -/
def mO (c0 c1 c2 c3 : FVec Ideal S1024x128 .f32) (prev : Vec Ideal S1x1024x128 .f32) : FVec Ideal S1024x128 .f32 :=
  maximumf (shapeCast S1024x128 prev shapeCasts_S1x1024x128_S1024x128)
    (broadcastTo S1024x128 (shapeCast S1024x1
      (multiReduction .maximumf [1] S1024 (maximumf (maximumf (maximumf c0 c1) c2) c3) 0xFF800000#32 reduces_S1024x128_S1024 (.inl rfl) rfl)
      shapeCasts_S1024_S1024x1) broadcasts_S1024x1_S1024x128)

/-- Four columns side by side. -/
def cat4 (a b c d : FVec Ideal S1024x128 .bf16) : FVec Ideal S1024x512 .bf16 :=
  concatenate S1024x512 1 [⟨S1024x128, a⟩, ⟨S1024x128, b⟩, ⟨S1024x128, c⟩, ⟨S1024x128, d⟩]
    concatenates_S1024x128_S1024x128_S1024x128_S1024x128_S1024x512_d1

/-- Four column blocks side by side, read by column. -/
theorem cat4_eq (a b c d : FVec Ideal S1024x128 .bf16) (h) :
    concatenate S1024x512 1 [⟨S1024x128, a⟩, ⟨S1024x128, b⟩, ⟨S1024x128, c⟩, ⟨S1024x128, d⟩] h = cat4 a b c d := rfl

/-- The powers of two that weight the values of a key block. -/
def pO (c0 c1 c2 c3 mn : FVec Ideal S1024x128 .f32) : FVec Ideal S1024x512 .bf16 :=
  cat4 (truncf .bf16 (exp2 (subf c0 mn)) bitsLt_bf16_f32) (truncf .bf16 (exp2 (subf c1 mn)) bitsLt_bf16_f32)
    (truncf .bf16 (exp2 (subf c2 mn)) bitsLt_bf16_f32) (truncf .bf16 (exp2 (subf c3 mn)) bitsLt_bf16_f32)

/-- One head's accumulator after a key block. -/
def aO (prevm : Vec Ideal S1x1024x128 .f32) (mn : FVec Ideal S1024x128 .f32) (p : FVec Ideal S1024x512 .bf16)
    (prev : Vec Ideal S1x1024x128 .f32) (v : Vec Ideal S512x128 .bf16) : FVec Ideal S1x1024x128 .f32 :=
  shapeCast S1x1024x128
    (addf (mulf (shapeCast S1024x128 prev shapeCasts_S1x1024x128_S1024x128)
        (exp2 (subf (shapeCast S1024x128 prevm shapeCasts_S1x1024x128_S1024x128) mn)))
      (matmul (F := Ideal) (φ₁ := .bf16) (φ₂ := .bf16) dot_S1024x512_S512x128_S1024x128_1_0_0_1_n_n none p v (constant S1024x128 .f32 0x00000000#32)))
    shapeCasts_S1024x128_S1x1024x128

/-- The scores at an index. -/
theorem scO_apply (a b) (r : Fin 1024) (j : Fin 512) :
    scO a b (ix2 r j) = ∑ d : Fin 128, a (ix2 r d) * b (ix2 j d) := by
  pointwise [scO]

/-- The running maximum at an index. -/
theorem mO_apply (c0 c1 c2 c3 prev) (r : Fin 1024) (l : Fin 128) :
    mO c0 c1 c2 c3 prev (ix2 r l)
      = max (prev (ix3 0 r l)) (Finset.univ.sup fun x : Fin 128 => max (max (max (c0 (ix2 r x)) (c1 (ix2 r x))) (c2 (ix2 r x))) (c3 (ix2 r x))) := by
  pointwise [mO]
  have e : Ideal.ofBits FTy.f32 4286578688#32 = (⊥ : EReal) := by
    show Ideal.ieee 8 23 0xFF800000#32 = _
    simp [Ideal.ieee]
  rw [e]
  rfl

/-- The accumulator at an index. -/
theorem aO_apply (prevm mn p prev v) (r : Fin 1024) (l : Fin 128) :
    aO prevm mn p prev v (ix3 0 r l)
      = prev (ix3 0 r l) * Ideal.exp2 (prevm (ix3 0 r l) - mn (ix2 r l)) + ∑ j : Fin 512, p (ix2 r j) * v (ix2 j l) := by
  pointwise [aO]
  rfl

/-- A score less the maximum of its row, to the power of two: the weight of a key, when the columns hold the row `s` of scores
    and the maximum is the same in every lane. -/
theorem pO_apply (c0 c1 c2 c3 mn : FVec Ideal S1024x128 .f32) (r : Fin 1024) (s : Fin 512 → EReal) (M : EReal)
    (h0 : ∀ x : Fin 128, c0 (ix2 r x) = s ⟨x.val, by omega⟩) (h1 : ∀ x : Fin 128, c1 (ix2 r x) = s ⟨128 + x.val, by omega⟩)
    (h2 : ∀ x : Fin 128, c2 (ix2 r x) = s ⟨256 + x.val, by omega⟩) (h3 : ∀ x : Fin 128, c3 (ix2 r x) = s ⟨384 + x.val, by omega⟩)
    (hM : ∀ x : Fin 128, mn (ix2 r x) = M) (j : Fin 512) :
    pO c0 c1 c2 c3 mn (ix2 r j) = Ideal.exp2 (s j - M) := by
  pointwise [pO, cat4]
  have hj := j.isLt
  split
  · rw [h0, hM]; rfl
  · split
    · rw [h1, hM]
      exact congrArg (fun a => Ideal.exp2 (s a - M)) (Fin.ext (by show 128 + (j.val - 128) = j.val; omega))
    · split
      · rw [h2, hM]
        exact congrArg (fun a => Ideal.exp2 (s a - M)) (Fin.ext (by show 256 + (j.val - 128 - 128) = j.val; omega))
      · rw [h3, hM]
        exact congrArg (fun a => Ideal.exp2 (s a - M)) (Fin.ext (by show 384 + (j.val - 128 - 128 - 128) = j.val; omega))

/-- The largest of four columns of 128 lanes is the largest of the 512. -/
theorem sup_cols (s : Fin 512 → EReal) :
    (Finset.univ.sup fun x : Fin 128 => max (max (max (s ⟨x.val, by omega⟩) (s ⟨128 + x.val, by omega⟩)) (s ⟨256 + x.val, by omega⟩)) (s ⟨384 + x.val, by omega⟩))
      = Finset.univ.sup s := by
  apply le_antisymm
  · refine Finset.sup_le fun x _ => ?_
    exact max_le (max_le (max_le (Finset.le_sup (f := s) (Finset.mem_univ _)) (Finset.le_sup (f := s) (Finset.mem_univ _)))
      (Finset.le_sup (f := s) (Finset.mem_univ _))) (Finset.le_sup (f := s) (Finset.mem_univ _))
  · refine Finset.sup_le fun j _ => ?_
    have hj := j.isLt
    have key := Finset.le_sup (f := fun x : Fin 128 => max (max (max (s ⟨x.val, by omega⟩) (s ⟨128 + x.val, by omega⟩)) (s ⟨256 + x.val, by omega⟩)) (s ⟨384 + x.val, by omega⟩))
      (Finset.mem_univ (⟨j.val % 128, Nat.mod_lt _ (by norm_num)⟩ : Fin 128))
    refine le_trans ?_ key
    rcases (show j.val = j.val % 128 ∨ j.val = 128 + j.val % 128 ∨ j.val = 256 + j.val % 128 ∨ j.val = 384 + j.val % 128 by omega) with h | h | h | h
    · exact le_max_of_le_left (le_max_of_le_left (le_max_of_le_left (le_of_eq (congrArg s (Fin.ext h)))))
    · exact le_max_of_le_left (le_max_of_le_left (le_max_of_le_right (le_of_eq (congrArg s (Fin.ext h)))))
    · exact le_max_of_le_left (le_max_of_le_right (le_of_eq (congrArg s (Fin.ext h))))
    · exact le_max_of_le_right (le_of_eq (congrArg s (Fin.ext h)))

/-- A per-row maximum, held in every lane of its row. -/
def toM (pm : Fin 8 → Fin 1024 → EReal) : S8x1024x128.Idx → EReal := fun y => pm (y 0) (y 1)

/-- A per-lane accumulator, as an array. -/
def toA (pa : Fin 8 → Fin 1024 → Fin 128 → EReal) : S8x1024x128.Idx → EReal := fun y => pa (y 0) (y 1) (y 2)

/-- The maximum after a block whose scores are `s`. -/
def stepM (s : Fin 8 → Fin 1024 → Fin 512 → EReal) (pm : Fin 8 → Fin 1024 → EReal) : Fin 8 → Fin 1024 → EReal :=
  fun h r => max (pm h r) (Finset.univ.sup (s h r))

/-- The accumulator after a block whose scores are `s` and whose values are `v`. -/
def stepA (s : Fin 8 → Fin 1024 → Fin 512 → EReal) (pm : Fin 8 → Fin 1024 → EReal) (pa : Fin 8 → Fin 1024 → Fin 128 → EReal)
    (v : S512x1024.Idx → EReal) : Fin 8 → Fin 1024 → Fin 128 → EReal :=
  fun h r l => pa h r l * Ideal.exp2 (pm h r - stepM s pm h r)
    + ∑ j : Fin 512, Ideal.exp2 (s h r j - stepM s pm h r) * v (ix2 j ⟨128 * h.val + l.val, by omega⟩)

/-- A head's rectangle in a scratch. -/
theorem inbS (h : Nat) (hh : h < 8) : ∀ a, (![h, 0, 0] : Fin 3 → Nat) a + S1x1024x128.size a ≤ S8x1024x128.size a := by
  intro a
  fin_cases a
  · show h + 1 ≤ 8; omega
  · show 0 + 1024 ≤ 1024; omega
  · show 0 + 128 ≤ 128; omega

/-- A head's rectangle of an array that holds one value per row. -/
theorem emb_toM (pm) (h : Nat) (hh : h < 8) (inb) (r : Fin 1024) (l : Fin 128) :
    toM pm ((Rect.unit (s := S8x1024x128) ![h, 0, 0] ![1, 1024, 128] inb).emb (ix3 0 r l)) = pm ⟨h, hh⟩ r :=
  congr (congrArg pm (Fin.ext (by show h + 1 * 0 = h; omega))) (Fin.ext (by show 0 + 1 * r.val = r.val; omega))

/-- A head's rectangle of an array that holds one value per row and lane. -/
theorem emb_toA (pa) (h : Nat) (hh : h < 8) (inb) (r : Fin 1024) (l : Fin 128) :
    toA pa ((Rect.unit (s := S8x1024x128) ![h, 0, 0] ![1, 1024, 128] inb).emb (ix3 0 r l)) = pa ⟨h, hh⟩ r l :=
  congr (congr (congrArg pa (Fin.ext (by show h + 1 * 0 = h; omega))) (Fin.ext (by show 0 + 1 * r.val = r.val; omega)))
    (Fin.ext (by show 0 + 1 * l.val = l.val; omega))

/-- An index of one head's rectangle, by its row and lane. -/
theorem x3_eq (x : S1x1024x128.Idx) : ∃ (r : Fin 1024) (l : Fin 128), x = ix3 0 r l := by
  refine ⟨x 1, x 2, ?_⟩
  funext a
  fin_cases a
  · exact Subsingleton.elim (α := Fin 1) _ _
  · rfl
  · rfl

/-- One head's stored maximum. -/
theorem head_m (h : Nat) (hh : h < 8) (s : Fin 8 → Fin 1024 → Fin 512 → EReal) (pm : Fin 8 → Fin 1024 → EReal)
    (c0 c1 c2 c3 : FVec Ideal S1024x128 .f32) (prev : Vec Ideal S1x1024x128 .f32)
    (h0 : ∀ r, ∀ x : Fin 128, c0 (ix2 r x) = s ⟨h, hh⟩ r ⟨x.val, by omega⟩) (h1 : ∀ r, ∀ x : Fin 128, c1 (ix2 r x) = s ⟨h, hh⟩ r ⟨128 + x.val, by omega⟩)
    (h2 : ∀ r, ∀ x : Fin 128, c2 (ix2 r x) = s ⟨h, hh⟩ r ⟨256 + x.val, by omega⟩) (h3 : ∀ r, ∀ x : Fin 128, c3 (ix2 r x) = s ⟨h, hh⟩ r ⟨384 + x.val, by omega⟩)
    (hp : ∀ r l, prev (ix3 0 r l) = pm ⟨h, hh⟩ r) (r : Fin 1024) (l : Fin 128) :
    mO c0 c1 c2 c3 prev (ix2 r l) = stepM s pm ⟨h, hh⟩ r := by
  rw [mO_apply, hp]
  simp only [h0, h1, h2, h3]
  rw [sup_cols (s ⟨h, hh⟩ r)]
  rfl

/-- The maximum that a head's update stores. -/
theorem head_m' (h : Nat) (hh : h < 8) (s : Fin 8 → Fin 1024 → Fin 512 → EReal) (pm : Fin 8 → Fin 1024 → EReal)
    (mn : FVec Ideal S1024x128 .f32) (hm : ∀ r l, mn (ix2 r l) = stepM s pm ⟨h, hh⟩ r) (inb) (x : S1x1024x128.Idx) :
    shapeCast S1x1024x128 mn shapeCasts_S1024x128_S1x1024x128 x
      = toM (stepM s pm) ((Rect.unit (s := S8x1024x128) ![h, 0, 0] ![1, 1024, 128] inb).emb x) := by
  obtain ⟨r, l, rfl⟩ := x3_eq x
  rw [emb_toM _ h hh]
  refine Eq.trans ?_ (hm r l)
  pointwise []

/-- One head's stored accumulator. -/
theorem head_a (h : Nat) (hh : h < 8) (s : Fin 8 → Fin 1024 → Fin 512 → EReal) (pm : Fin 8 → Fin 1024 → EReal) (pa : Fin 8 → Fin 1024 → Fin 128 → EReal)
    (v : S512x1024.Idx → EReal)
    (c0 c1 c2 c3 : FVec Ideal S1024x128 .f32) (prev pra : Vec Ideal S1x1024x128 .f32) (vv : Vec Ideal S512x128 .bf16)
    (h0 : ∀ r, ∀ x : Fin 128, c0 (ix2 r x) = s ⟨h, hh⟩ r ⟨x.val, by omega⟩) (h1 : ∀ r, ∀ x : Fin 128, c1 (ix2 r x) = s ⟨h, hh⟩ r ⟨128 + x.val, by omega⟩)
    (h2 : ∀ r, ∀ x : Fin 128, c2 (ix2 r x) = s ⟨h, hh⟩ r ⟨256 + x.val, by omega⟩) (h3 : ∀ r, ∀ x : Fin 128, c3 (ix2 r x) = s ⟨h, hh⟩ r ⟨384 + x.val, by omega⟩)
    (hp : ∀ r l, prev (ix3 0 r l) = pm ⟨h, hh⟩ r) (ha : ∀ r l, pra (ix3 0 r l) = pa ⟨h, hh⟩ r l)
    (hv : ∀ j l, vv (ix2 j l) = v (ix2 j ⟨128 * h + l.val, by omega⟩)) (inb) (x : S1x1024x128.Idx) :
    aO prev (mO c0 c1 c2 c3 prev) (pO c0 c1 c2 c3 (mO c0 c1 c2 c3 prev)) pra vv x
      = toA (stepA s pm pa v) ((Rect.unit (s := S8x1024x128) ![h, 0, 0] ![1, 1024, 128] inb).emb x) := by
  obtain ⟨r, l, rfl⟩ := x3_eq x
  rw [emb_toA _ h hh]
  have hm := head_m h hh s pm c0 c1 c2 c3 prev h0 h1 h2 h3 hp
  rw [aO_apply, ha, hp, hm]
  simp only [fun j => pO_apply c0 c1 c2 c3 (mO c0 c1 c2 c3 prev) r (s ⟨h, hh⟩ r) (stepM s pm ⟨h, hh⟩ r)
    (h0 _) (h1 _) (h2 _) (h3 _) (fun l => hm _ l) j, hv]
  rfl

/-- A head's slice of the query block. -/
theorem inbQ (h : Nat) (hh : h < 8) : ∀ a, (![0, 128 * h] : Fin 2 → Nat) a + S1024x128.size a ≤ S1024x1024.size a := by
  intro a
  fin_cases a
  · show 0 + 1024 ≤ 1024; omega
  · show 128 * h + 128 ≤ 1024; omega

/-- A head's slice of a key or value block. -/
theorem inbK (h : Nat) (hh : h < 8) : ∀ a, (![0, 128 * h] : Fin 2 → Nat) a + S512x128.size a ≤ S512x1024.size a := by
  intro a
  fin_cases a
  · show 0 + 512 ≤ 512; omega
  · show 128 * h + 128 ≤ 1024; omega

def qH (x0 : S1024x1024.Idx → EReal) (h : Nat) (hh : h < 8) : Vec Ideal S1024x128 .bf16 :=
  View.ld (Val := Elt Ideal) (e' := .bf16) x0 (Rect.unit (s := S1024x1024) ![0, 128 * h] ![1024, 128] (inbQ h hh))

def kH (x1 : S512x1024.Idx → EReal) (h : Nat) (hh : h < 8) : Vec Ideal S512x128 .bf16 :=
  View.ld (Val := Elt Ideal) (e' := .bf16) x1 (Rect.unit (s := S512x1024) ![0, 128 * h] ![512, 128] (inbK h hh))

def sH (x : S8x1024x128.Idx → EReal) (h : Nat) (hh : h < 8) : Vec Ideal S1x1024x128 .f32 :=
  View.ld (Val := Elt Ideal) (e' := .f32) x (Rect.unit (s := S8x1024x128) ![h, 0, 0] ![1, 1024, 128] (inbS h hh))

/-- A head's queries are its block of lanes. -/
theorem qH_apply (x0 h hh) (r : Fin 1024) (d : Fin 128) : qH x0 h hh (ix2 r d) = x0 (ix2 r ⟨128 * h + d.val, by omega⟩) := by
  unfold qH
  exact congrArg x0 (funext fun a => by fin_cases a <;> exact Fin.ext (by simp [LoadRect.idx, Rect.emb, Rect.unit]))

/-- A head's keys are its block of lanes. -/
theorem kH_apply (x1 h hh) (j : Fin 512) (d : Fin 128) : kH x1 h hh (ix2 j d) = x1 (ix2 j ⟨128 * h + d.val, by omega⟩) := by
  unfold kH
  exact congrArg x1 (funext fun a => by fin_cases a <;> exact Fin.ext (by simp [LoadRect.idx, Rect.emb, Rect.unit]))

/-- The unmasked scores of a query block against a key block. -/
def sU (x0 : S1024x1024.Idx → EReal) (x1 : S512x1024.Idx → EReal) : Fin 8 → Fin 1024 → Fin 512 → EReal := fun h r j =>
  ∑ d : Fin 128, x0 (ix2 r ⟨128 * h.val + d.val, by omega⟩) * x1 (ix2 j ⟨128 * h.val + d.val, by omega⟩)

/-- The scores with the later keys masked, the query block being `w` rows below the key block. -/
def sM (w : BitVec 32) (x0 : S1024x1024.Idx → EReal) (x1 : S512x1024.Idx → EReal) : Fin 8 → Fin 1024 → Fin 512 → EReal := fun h r j =>
  Scalar.select (IntOp.cmpi .sge (BitVec.ofNat 32 r.val + w) (BitVec.ofNat 32 j.val)) (sU x0 x1 h r j) ⊥

/-- One of the four columns of a head's scores. -/
def cU (x0 : S1024x1024.Idx → EReal) (x1 : S512x1024.Idx → EReal) (h : Nat) (hh : h < 8) (o : Nat) (ho : S1024x512.Slices ![0, o] S1024x128) :
    FVec Ideal S1024x128 .f32 :=
  extractStridedSlice S1024x128 ![0, o] (scO (qH x0 h hh) (kH x1 h hh)) ho

/-- A column block of unmasked scores, element by element. -/
theorem cU_apply (x0 x1 h hh o ho) (r : Fin 1024) (x : Fin 128) (hx : o + x.val < 512) :
    cU x0 x1 h hh o ho (ix2 r x) = sU x0 x1 ⟨h, hh⟩ r ⟨o + x.val, hx⟩ := by
  have e : cU x0 x1 h hh o ho (ix2 r x) = scO (qH x0 h hh) (kH x1 h hh) (ix2 r ⟨o + x.val, hx⟩) :=
    congrArg (scO (qH x0 h hh) (kH x1 h hh)) (funext fun a => Fin.ext (by
      fin_cases a
      · show 0 + r.val = r.val; omega
      · show o + x.val = o + x.val; rfl))
  rw [e, scO_apply]
  exact Finset.sum_congr rfl fun d _ => congrArg₂ (fun a b : EReal => a * b) (qH_apply _ _ _ _ _) (kH_apply _ _ _ _ _)

/-- One of the four columns of a head's scores, masked. -/
def cM (w : BitVec 32) (x0 : S1024x1024.Idx → EReal) (x1 : S512x1024.Idx → EReal) (h : Nat) (hh : h < 8) (o : Nat) (ho : S1024x512.Slices ![0, o] S1024x128) :
    FVec Ideal S1024x128 .f32 :=
  select (cmpi .sge (addi (iota .tc S1024x128 32 [0] iota_S1024x128_d0_w32) (broadcast S1024x128 w))
      (addi (iota .tc S1024x128 32 [1] iota_S1024x128_d1_w32) (broadcast S1024x128 (BitVec.ofNat 32 o))))
    (cU x0 x1 h hh o ho) (broadcast S1024x128 (Named.named (F := Ideal) κ "mask" 0xF149F2CA#32))

/-- The named mask is minus infinity. -/
theorem mask_bot : (Named.named (F := Ideal) (φ := .f32) κ "mask" 0xF149F2CA#32 : EReal) = ⊥ :=
  rfl

/-- A column block of masked scores, element by element. -/
theorem cM_apply (w x0 x1 h hh o ho) (r : Fin 1024) (x : Fin 128) (hx : o + x.val < 512) :
    cM w x0 x1 h hh o ho (ix2 r x) = sM w x0 x1 ⟨h, hh⟩ r ⟨o + x.val, hx⟩ := by
  have e : cM w x0 x1 h hh o ho (ix2 r x)
      = Scalar.select (IntOp.cmpi .sge (BitVec.ofNat 32 r.val + w) (BitVec.ofNat 32 x.val + BitVec.ofNat 32 o)) (cU x0 x1 h hh o ho (ix2 r x))
          (Named.named (F := Ideal) (φ := .f32) κ "mask" 0xF149F2CA#32) := by
    pointwise [cM]
    rfl
  rw [e, mask_bot, cU_apply _ _ _ _ _ _ _ _ hx, ← BitVec.ofNat_add, Nat.add_comm x.val o]
  rfl

/-- A head's slab of the maxima. -/
theorem sH_toM (pm h hh) (r : Fin 1024) (l : Fin 128) : sH (toM pm) h hh (ix3 0 r l) = pm ⟨h, hh⟩ r := by
  unfold sH
  exact emb_toM pm h hh (inbS h hh) r l

/-- A head's slab of the accumulators. -/
theorem sH_toA (pa h hh) (r : Fin 1024) (l : Fin 128) : sH (toA pa) h hh (ix3 0 r l) = pa ⟨h, hh⟩ r l := by
  unfold sH
  exact emb_toA pa h hh (inbS h hh) r l

/-- One head's stored maximum at an unmasked block. -/
theorem headU_m (h : Nat) (hh : h < 8) (x0 x1 pm inb x) :
    shapeCast S1x1024x128 (mO (cU x0 x1 h hh 0 slices_S1024x512_o0_0_S1024x128) (cU x0 x1 h hh 128 slices_S1024x512_o0_128_S1024x128)
        (cU x0 x1 h hh 256 slices_S1024x512_o0_256_S1024x128) (cU x0 x1 h hh 384 slices_S1024x512_o0_384_S1024x128) (sH (toM pm) h hh))
        shapeCasts_S1024x128_S1x1024x128 x
      = toM (stepM (sU x0 x1) pm) ((Rect.unit (s := S8x1024x128) ![h, 0, 0] ![1, 1024, 128] inb).emb x) :=
  head_m' h hh _ pm _ (head_m h hh _ pm _ _ _ _ _
    (fun r x => (cU_apply x0 x1 h hh 0 _ r x (by omega)).trans (congrArg (sU x0 x1 ⟨h, hh⟩ r) (Fin.ext (by show 0 + x.val = x.val; omega))))
    (fun r x => cU_apply x0 x1 h hh 128 _ r x (by omega)) (fun r x => cU_apply x0 x1 h hh 256 _ r x (by omega))
    (fun r x => cU_apply x0 x1 h hh 384 _ r x (by omega)) (sH_toM pm h hh)) inb x

/-- One head's stored accumulator at an unmasked block. -/
theorem headU_a (h : Nat) (hh : h < 8) (x0 x1 x2 pm pa inb x) :
    aO (sH (toM pm) h hh) (mO (cU x0 x1 h hh 0 slices_S1024x512_o0_0_S1024x128) (cU x0 x1 h hh 128 slices_S1024x512_o0_128_S1024x128)
        (cU x0 x1 h hh 256 slices_S1024x512_o0_256_S1024x128) (cU x0 x1 h hh 384 slices_S1024x512_o0_384_S1024x128) (sH (toM pm) h hh))
      (pO (cU x0 x1 h hh 0 slices_S1024x512_o0_0_S1024x128) (cU x0 x1 h hh 128 slices_S1024x512_o0_128_S1024x128)
        (cU x0 x1 h hh 256 slices_S1024x512_o0_256_S1024x128) (cU x0 x1 h hh 384 slices_S1024x512_o0_384_S1024x128)
        (mO (cU x0 x1 h hh 0 slices_S1024x512_o0_0_S1024x128) (cU x0 x1 h hh 128 slices_S1024x512_o0_128_S1024x128)
          (cU x0 x1 h hh 256 slices_S1024x512_o0_256_S1024x128) (cU x0 x1 h hh 384 slices_S1024x512_o0_384_S1024x128) (sH (toM pm) h hh)))
      (sH (toA pa) h hh) (kH x2 h hh) x
      = toA (stepA (sU x0 x1) pm pa x2) ((Rect.unit (s := S8x1024x128) ![h, 0, 0] ![1, 1024, 128] inb).emb x) :=
  head_a h hh _ pm pa x2 _ _ _ _ _ _ _
    (fun r x => (cU_apply x0 x1 h hh 0 _ r x (by omega)).trans (congrArg (sU x0 x1 ⟨h, hh⟩ r) (Fin.ext (by show 0 + x.val = x.val; omega))))
    (fun r x => cU_apply x0 x1 h hh 128 _ r x (by omega)) (fun r x => cU_apply x0 x1 h hh 256 _ r x (by omega))
    (fun r x => cU_apply x0 x1 h hh 384 _ r x (by omega)) (sH_toM pm h hh) (sH_toA pa h hh) (kH_apply x2 h hh) inb x

/-- One head's stored maximum at a masked block. -/
theorem headM_m (h : Nat) (hh : h < 8) (w x0 x1 pm inb x) :
    shapeCast S1x1024x128 (mO (cM w x0 x1 h hh 0 slices_S1024x512_o0_0_S1024x128) (cM w x0 x1 h hh 128 slices_S1024x512_o0_128_S1024x128)
        (cM w x0 x1 h hh 256 slices_S1024x512_o0_256_S1024x128) (cM w x0 x1 h hh 384 slices_S1024x512_o0_384_S1024x128) (sH (toM pm) h hh))
        shapeCasts_S1024x128_S1x1024x128 x
      = toM (stepM (sM w x0 x1) pm) ((Rect.unit (s := S8x1024x128) ![h, 0, 0] ![1, 1024, 128] inb).emb x) :=
  head_m' h hh _ pm _ (head_m h hh _ pm _ _ _ _ _
    (fun r x => (cM_apply w x0 x1 h hh 0 _ r x (by omega)).trans (congrArg (sM w x0 x1 ⟨h, hh⟩ r) (Fin.ext (by show 0 + x.val = x.val; omega))))
    (fun r x => cM_apply w x0 x1 h hh 128 _ r x (by omega)) (fun r x => cM_apply w x0 x1 h hh 256 _ r x (by omega))
    (fun r x => cM_apply w x0 x1 h hh 384 _ r x (by omega)) (sH_toM pm h hh)) inb x

/-- One head's stored accumulator at a masked block. -/
theorem headM_a (h : Nat) (hh : h < 8) (w x0 x1 x2 pm pa inb x) :
    aO (sH (toM pm) h hh) (mO (cM w x0 x1 h hh 0 slices_S1024x512_o0_0_S1024x128) (cM w x0 x1 h hh 128 slices_S1024x512_o0_128_S1024x128)
        (cM w x0 x1 h hh 256 slices_S1024x512_o0_256_S1024x128) (cM w x0 x1 h hh 384 slices_S1024x512_o0_384_S1024x128) (sH (toM pm) h hh))
      (pO (cM w x0 x1 h hh 0 slices_S1024x512_o0_0_S1024x128) (cM w x0 x1 h hh 128 slices_S1024x512_o0_128_S1024x128)
        (cM w x0 x1 h hh 256 slices_S1024x512_o0_256_S1024x128) (cM w x0 x1 h hh 384 slices_S1024x512_o0_384_S1024x128)
        (mO (cM w x0 x1 h hh 0 slices_S1024x512_o0_0_S1024x128) (cM w x0 x1 h hh 128 slices_S1024x512_o0_128_S1024x128)
          (cM w x0 x1 h hh 256 slices_S1024x512_o0_256_S1024x128) (cM w x0 x1 h hh 384 slices_S1024x512_o0_384_S1024x128) (sH (toM pm) h hh)))
      (sH (toA pa) h hh) (kH x2 h hh) x
      = toA (stepA (sM w x0 x1) pm pa x2) ((Rect.unit (s := S8x1024x128) ![h, 0, 0] ![1, 1024, 128] inb).emb x) :=
  head_a h hh _ pm pa x2 _ _ _ _ _ _ _
    (fun r x => (cM_apply w x0 x1 h hh 0 _ r x (by omega)).trans (congrArg (sM w x0 x1 ⟨h, hh⟩ r) (Fin.ext (by show 0 + x.val = x.val; omega))))
    (fun r x => cM_apply w x0 x1 h hh 128 _ r x (by omega)) (fun r x => cM_apply w x0 x1 h hh 256 _ r x (by omega))
    (fun r x => cM_apply w x0 x1 h hh 384 _ r x (by omega)) (sH_toM pm h hh) (sH_toA pa h hh) (kH_apply x2 h hh) inb x

end Cert.LatentIdeal.Hand

end
-- ==== Proof.LatentPaths.lean ====
module

public import proofs.«01_k».proof.Proof.LatentTile

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

/-- Every index of a scratch lies in one of its eight heads, whatever was stored before them. -/
theorem cover8 (w7 w6 w5 w4 w3 w2 w1 w0 : S1x1024x128.Idx → Elt Ideal .f32) (i7 i6 i5 i4 i3 i2 i1 i0) : ∀ y : S8x1024x128.Idx, ∃ p ∈
    ([⟨Rect.unit (s := S8x1024x128) ![7, 0, 0] ![1, 1024, 128] i7, w7⟩, ⟨Rect.unit (s := S8x1024x128) ![6, 0, 0] ![1, 1024, 128] i6, w6⟩,
      ⟨Rect.unit (s := S8x1024x128) ![5, 0, 0] ![1, 1024, 128] i5, w5⟩, ⟨Rect.unit (s := S8x1024x128) ![4, 0, 0] ![1, 1024, 128] i4, w4⟩,
      ⟨Rect.unit (s := S8x1024x128) ![3, 0, 0] ![1, 1024, 128] i3, w3⟩, ⟨Rect.unit (s := S8x1024x128) ![2, 0, 0] ![1, 1024, 128] i2, w2⟩,
      ⟨Rect.unit (s := S8x1024x128) ![1, 0, 0] ![1, 1024, 128] i1, w1⟩, ⟨Rect.unit (s := S8x1024x128) ![0, 0, 0] ![1, 1024, 128] i0, w0⟩] : List (View.Piece (Elt Ideal) S8x1024x128 .f32)),
    y ∈ p.1.set := by
  intro y
  have h0 : (y 0).val < 8 := (y 0).isLt
  have h1 : (y 1).val < 1024 := (y 1).isLt
  have h2 : (y 2).val < 128 := (y 2).isLt
  have key : ∀ (o : Nat) (inb), (y 0).val = o → y ∈ (Rect.unit (s := S8x1024x128) ![o, 0, 0] ![1, 1024, 128] inb).set := by
    intro o inb ha
    rw [Rect.mem_set_unit]
    intro a
    fin_cases a
    · exact ⟨le_of_eq ha.symm, by show (y 0).val < o + 1; omega⟩
    · exact ⟨Nat.zero_le _, by simpa using h1⟩
    · exact ⟨Nat.zero_le _, by simpa using h2⟩
  rcases (show (y 0).val = 7 ∨ (y 0).val = 6 ∨ (y 0).val = 5 ∨ (y 0).val = 4 ∨ (y 0).val = 3 ∨ (y 0).val = 2 ∨ (y 0).val = 1 ∨ (y 0).val = 0 by omega)
    with h | h | h | h | h | h | h | h
  · exact ⟨_, .head _, key 7 i7 h⟩
  · exact ⟨_, .tail _ (.head _), key 6 i6 h⟩
  · exact ⟨_, .tail _ (.tail _ (.head _)), key 5 i5 h⟩
  · exact ⟨_, .tail _ (.tail _ (.tail _ (.head _))), key 4 i4 h⟩
  · exact ⟨_, .tail _ (.tail _ (.tail _ (.tail _ (.head _)))), key 3 i3 h⟩
  · exact ⟨_, .tail _ (.tail _ (.tail _ (.tail _ (.tail _ (.head _))))), key 2 i2 h⟩
  · exact ⟨_, .tail _ (.tail _ (.tail _ (.tail _ (.tail _ (.tail _ (.head _)))))), key 1 i1 h⟩
  · exact ⟨_, .tail _ (.tail _ (.tail _ (.tail _ (.tail _ (.tail _ (.tail _ (.head _))))))), key 0 i0 h⟩

/-- A scratch whose last eight stores are the heads of `G` holds `G`. -/
theorem canon8 (G : S8x1024x128.Idx → Elt Ideal .f32) (L' : List (View.Piece (Elt Ideal) S8x1024x128 .f32))
    (w7 w6 w5 w4 w3 w2 w1 w0 : S1x1024x128.Idx → Elt Ideal .f32) (i7 i6 i5 i4 i3 i2 i1 i0)
    (h7 : ∀ x, w7 x = G ((Rect.unit (s := S8x1024x128) ![7, 0, 0] ![1, 1024, 128] i7).emb x))
    (h6 : ∀ x, w6 x = G ((Rect.unit (s := S8x1024x128) ![6, 0, 0] ![1, 1024, 128] i6).emb x))
    (h5 : ∀ x, w5 x = G ((Rect.unit (s := S8x1024x128) ![5, 0, 0] ![1, 1024, 128] i5).emb x))
    (h4 : ∀ x, w4 x = G ((Rect.unit (s := S8x1024x128) ![4, 0, 0] ![1, 1024, 128] i4).emb x))
    (h3 : ∀ x, w3 x = G ((Rect.unit (s := S8x1024x128) ![3, 0, 0] ![1, 1024, 128] i3).emb x))
    (h2 : ∀ x, w2 x = G ((Rect.unit (s := S8x1024x128) ![2, 0, 0] ![1, 1024, 128] i2).emb x))
    (h1 : ∀ x, w1 x = G ((Rect.unit (s := S8x1024x128) ![1, 0, 0] ![1, 1024, 128] i1).emb x))
    (h0 : ∀ x, w0 x = G ((Rect.unit (s := S8x1024x128) ![0, 0, 0] ![1, 1024, 128] i0).emb x)) (y : S8x1024x128.Idx) :
    View.canon (⟨Rect.unit (s := S8x1024x128) ![7, 0, 0] ![1, 1024, 128] i7, w7⟩ :: ⟨Rect.unit (s := S8x1024x128) ![6, 0, 0] ![1, 1024, 128] i6, w6⟩
      :: ⟨Rect.unit (s := S8x1024x128) ![5, 0, 0] ![1, 1024, 128] i5, w5⟩ :: ⟨Rect.unit (s := S8x1024x128) ![4, 0, 0] ![1, 1024, 128] i4, w4⟩
      :: ⟨Rect.unit (s := S8x1024x128) ![3, 0, 0] ![1, 1024, 128] i3, w3⟩ :: ⟨Rect.unit (s := S8x1024x128) ![2, 0, 0] ![1, 1024, 128] i2, w2⟩
      :: ⟨Rect.unit (s := S8x1024x128) ![1, 0, 0] ![1, 1024, 128] i1, w1⟩ :: ⟨Rect.unit (s := S8x1024x128) ![0, 0, 0] ![1, 1024, 128] i0, w0⟩ :: L') y = G y :=
  View.canon_append_of_piecesOf G L'
    [⟨Rect.unit (s := S8x1024x128) ![7, 0, 0] ![1, 1024, 128] i7, w7⟩, ⟨Rect.unit (s := S8x1024x128) ![6, 0, 0] ![1, 1024, 128] i6, w6⟩,
      ⟨Rect.unit (s := S8x1024x128) ![5, 0, 0] ![1, 1024, 128] i5, w5⟩, ⟨Rect.unit (s := S8x1024x128) ![4, 0, 0] ![1, 1024, 128] i4, w4⟩,
      ⟨Rect.unit (s := S8x1024x128) ![3, 0, 0] ![1, 1024, 128] i3, w3⟩, ⟨Rect.unit (s := S8x1024x128) ![2, 0, 0] ![1, 1024, 128] i2, w2⟩,
      ⟨Rect.unit (s := S8x1024x128) ![1, 0, 0] ![1, 1024, 128] i1, w1⟩, ⟨Rect.unit (s := S8x1024x128) ![0, 0, 0] ![1, 1024, 128] i0, w0⟩]
    ⟨h7, h6, h5, h4, h3, h2, h1, h0, trivial⟩ y (cover8 w7 w6 w5 w4 w3 w2 w1 w0 i7 i6 i5 i4 i3 i2 i1 i0 y)

/-- The same of a scratch's contents. -/
theorem scr8_0 (G : S8x1024x128.Idx → Elt Ideal .f32) (L : List (View.Piece (Elt Ideal) S8x1024x128 .f32)) (h : ∀ y, View.canon L y = G y) :
    (View.whole cc0_scratch0).writes (Elt Ideal) (View.whole cc0_scratch0).junk L = G :=
  funext fun y => (View.read_writes_junk_apply_eq_canon (Val := Elt Ideal) (View.whole cc0_scratch0) y L).trans (h y)

/-- A scratch written slab by slab holds the array that its pieces agree with. -/
theorem scr8_1 (G : S8x1024x128.Idx → Elt Ideal .f32) (L : List (View.Piece (Elt Ideal) S8x1024x128 .f32)) (h : ∀ y, View.canon L y = G y) :
    (View.whole cc0_scratch1).writes (Elt Ideal) (View.whole cc0_scratch1).junk L = G :=
  funext fun y => (View.read_writes_junk_apply_eq_canon (Val := Elt Ideal) (View.whole cc0_scratch1) y L).trans (h y)

/-- The head is one of the eight. -/
theorem lt0 : 0 < 8 := by norm_num
/-- The head is one of the eight. -/
theorem lt1 : 1 < 8 := by norm_num
/-- The head is one of the eight. -/
theorem lt2 : 2 < 8 := by norm_num
/-- The head is one of the eight. -/
theorem lt3 : 3 < 8 := by norm_num
/-- The head is one of the eight. -/
theorem lt4 : 4 < 8 := by norm_num
/-- The head is one of the eight. -/
theorem lt5 : 5 < 8 := by norm_num
/-- The head is one of the eight. -/
theorem lt6 : 6 < 8 := by norm_num
/-- The head is one of the eight. -/
theorem lt7 : 7 < 8 := by norm_num

/-- The maxima a row starts from. -/
theorem pay1_eq : (k0_pay1 (F := Ideal)) = toM fun _ _ => ⊥ := rfl

/-- The accumulators a row starts from. -/
theorem pay2_eq : (k0_pay2 (F := Ideal)) = toA fun _ _ _ => 0 := by
  funext y
  show Ideal.ofBits FTy.f32 0x00000000#32 = (0 : EReal)
  show Ideal.ieee 8 23 0x00000000#32 = _
  simp [Ideal.ieee]

/-- How far the query block lies below the key block, in rows, as the tables say. -/
def wW (i : grid0.Coords) (T0 T1 : S272.Idx → Elt Ideal .i32) : BitVec 32 :=
  Scalar.addi (Scalar.subi (Scalar.muli (View.ld T0 (Rect.unit (s := S272) (k0_off1 i) S1.size (k0_off1_inb i)) (Shape.Idx.first (numel1_S1.symm ▸ Nat.one_pos))) 1024#32)
    (Scalar.muli (View.ld T1 (Rect.unit (s := S272) (k0_off1 i) S1.size (k0_off1_inb i)) (Shape.Idx.first (numel1_S1.symm ▸ Nat.one_pos))) 512#32)) 0#32

section D
variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)
  (pm : Fin 8 → Fin 1024 → EReal) (pa : Fin 8 → Fin 1024 → Fin 128 → EReal)

set_option maxHeartbeats 400000 in
/-- The maxima that an unmasked block leaves. -/
theorem D_m (hc0 hc1 hc2 h4) :
    (kernelRun0_D c i arg3 harg3 arg4 harg4 arg5 harg5 arg6 harg6 T0 T1 x0 x1 x2 (toM pm) (toA pa) hc0 hc1 hc2 h4).1 = toM (stepM (sU x0 x1) pm) := by
  unfold kernelRun0_D; dsimp only
  sl_unfold_run_names
  simp only [View.readAt_eq_ld, View.read_rep, View.read_whole]
  refine scr8_0 (toM (stepM (sU x0 x1) pm)) _ (canon8 (toM (stepM (sU x0 x1) pm)) _ _ _ _ _ _ _ _ _ _ _ _ _ _ _ _ _ ?_ ?_ ?_ ?_ ?_ ?_ ?_ ?_)
  · exact fun x => headU_m 7 lt7 x0 x1 pm inb_S8x1024x128_S1x1024x128_7_0_0 x
  · exact fun x => headU_m 6 lt6 x0 x1 pm inb_S8x1024x128_S1x1024x128_6_0_0 x
  · exact fun x => headU_m 5 lt5 x0 x1 pm inb_S8x1024x128_S1x1024x128_5_0_0 x
  · exact fun x => headU_m 4 lt4 x0 x1 pm inb_S8x1024x128_S1x1024x128_4_0_0 x
  · exact fun x => headU_m 3 lt3 x0 x1 pm inb_S8x1024x128_S1x1024x128_3_0_0 x
  · exact fun x => headU_m 2 lt2 x0 x1 pm inb_S8x1024x128_S1x1024x128_2_0_0 x
  · exact fun x => headU_m 1 lt1 x0 x1 pm inb_S8x1024x128_S1x1024x128_1_0_0 x
  · exact fun x => headU_m 0 lt0 x0 x1 pm inb_S8x1024x128_S1x1024x128_0_0_0 x

set_option maxHeartbeats 400000 in
/-- The accumulators that an unmasked block leaves. -/
theorem D_a (hc0 hc1 hc2 h4) :
    (kernelRun0_D c i arg3 harg3 arg4 harg4 arg5 harg5 arg6 harg6 T0 T1 x0 x1 x2 (toM pm) (toA pa) hc0 hc1 hc2 h4).2.1 = toA (stepA (sU x0 x1) pm pa x2) := by
  unfold kernelRun0_D; dsimp only
  sl_unfold_run_names
  simp only [↓cat4_eq, View.readAt_eq_ld, View.read_rep, View.read_whole, k0_pay4, k0_pay5]
  refine scr8_1 (toA (stepA (sU x0 x1) pm pa x2)) _ (canon8 (toA (stepA (sU x0 x1) pm pa x2)) _ _ _ _ _ _ _ _ _ _ _ _ _ _ _ _ _ ?_ ?_ ?_ ?_ ?_ ?_ ?_ ?_)
  · exact fun x => headU_a 7 lt7 x0 x1 x2 pm pa inb_S8x1024x128_S1x1024x128_7_0_0 x
  · exact fun x => headU_a 6 lt6 x0 x1 x2 pm pa inb_S8x1024x128_S1x1024x128_6_0_0 x
  · exact fun x => headU_a 5 lt5 x0 x1 x2 pm pa inb_S8x1024x128_S1x1024x128_5_0_0 x
  · exact fun x => headU_a 4 lt4 x0 x1 x2 pm pa inb_S8x1024x128_S1x1024x128_4_0_0 x
  · exact fun x => headU_a 3 lt3 x0 x1 x2 pm pa inb_S8x1024x128_S1x1024x128_3_0_0 x
  · exact fun x => headU_a 2 lt2 x0 x1 x2 pm pa inb_S8x1024x128_S1x1024x128_2_0_0 x
  · exact fun x => headU_a 1 lt1 x0 x1 x2 pm pa inb_S8x1024x128_S1x1024x128_1_0_0 x
  · exact fun x => headU_a 0 lt0 x0 x1 x2 pm pa inb_S8x1024x128_S1x1024x128_0_0_0 x
end D

end Cert.LatentIdeal.Hand

end
-- ==== Proof.LatentPoints.lean ====
module

public import proofs.«01_k».proof.Proof.LatentPaths
public import proofs.«01_k».proof.Proof.Gen.LatentIdeal.Flash

@[expose] public section

set_option maxRecDepth 16384

set_option Elab.async false

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

/-- The query block of the `n`-th step. -/
def bN (n : ℕ) : ℕ := (pinT_0 0 (ix1 ⟨n % 272, Nat.mod_lt _ (by norm_num)⟩)).toNat

/-- The key block of the `n`-th step. -/
def kN (n : ℕ) : ℕ := (pinT_1 0 (ix1 ⟨n % 272, Nat.mod_lt _ (by norm_num)⟩)).toNat

/-- Where the blocks of a step lie, and how its place in its row of blocks decides what it does. -/
abbrev PF (t : Fin (cfgA (⟨0, by omega⟩ : Fin 1)).N) : Prop :=
  ((((cfgA 0).win (0 : Fin 4)).index t (0 : Fin 2) = bN t.val ∧ ((cfgA 0).win (0 : Fin 4)).index t (1 : Fin 2) = 0)
    ∧ (((cfgA 0).win (1 : Fin 4)).index t (0 : Fin 2) = kN t.val ∧ ((cfgA 0).win (1 : Fin 4)).index t (1 : Fin 2) = 0)
    ∧ (((cfgA 0).win (2 : Fin 4)).index t (0 : Fin 2) = kN t.val ∧ ((cfgA 0).win (2 : Fin 4)).index t (1 : Fin 2) = 0)
    ∧ (((cfgA 0).win (3 : Fin 4)).index t (0 : Fin 2) = bN t.val ∧ ((cfgA 0).win (3 : Fin 4)).index t (1 : Fin 2) = 0))
  ∧ (bN t.val < 16 ∧ kN t.val < 32)
  ∧ (P0_0 0 t → kN t.val = 0) ∧ (¬P0_0 0 t → 0 < t.val ∧ bN (t.val - 1) = bN t.val ∧ kN (t.val - 1) + 1 = kN t.val)
  ∧ (P0_1 0 t → kN t.val < 2 * bN t.val)
  ∧ (¬P0_1 0 t → (wW (crd 0 t) (pinT_0 0) (pinT_1 0) = 0#32 ∧ kN t.val = 2 * bN t.val)
      ∨ (wW (crd 0 t) (pinT_0 0) (pinT_1 0) = 4294966784#32 ∧ kN t.val = 2 * bN t.val + 1))
  ∧ (P0_2 0 t → kN t.val = 2 * bN t.val + 1)

/-- The facts of the steps from 0 to 33. -/
theorem pf_0 : ∀ t : Fin (cfgA (⟨0, by omega⟩ : Fin 1)).N, 0 ≤ t.val → t.val < 34 → PF t := by decide +kernel
/-- The facts of the steps from 34 to 67. -/
theorem pf_1 : ∀ t : Fin (cfgA (⟨0, by omega⟩ : Fin 1)).N, 34 ≤ t.val → t.val < 68 → PF t := by decide +kernel
/-- The facts of the steps from 68 to 101. -/
theorem pf_2 : ∀ t : Fin (cfgA (⟨0, by omega⟩ : Fin 1)).N, 68 ≤ t.val → t.val < 102 → PF t := by decide +kernel
/-- The facts of the steps from 102 to 135. -/
theorem pf_3 : ∀ t : Fin (cfgA (⟨0, by omega⟩ : Fin 1)).N, 102 ≤ t.val → t.val < 136 → PF t := by decide +kernel
/-- The facts of the steps from 136 to 169. -/
theorem pf_4 : ∀ t : Fin (cfgA (⟨0, by omega⟩ : Fin 1)).N, 136 ≤ t.val → t.val < 170 → PF t := by decide +kernel
/-- The facts of the steps from 170 to 203. -/
theorem pf_5 : ∀ t : Fin (cfgA (⟨0, by omega⟩ : Fin 1)).N, 170 ≤ t.val → t.val < 204 → PF t := by decide +kernel
/-- The facts of the steps from 204 to 237. -/
theorem pf_6 : ∀ t : Fin (cfgA (⟨0, by omega⟩ : Fin 1)).N, 204 ≤ t.val → t.val < 238 → PF t := by decide +kernel
/-- The facts of the steps from 238 to 271. -/
theorem pf_7 : ∀ t : Fin (cfgA (⟨0, by omega⟩ : Fin 1)).N, 238 ≤ t.val → t.val < 272 → PF t := by decide +kernel

/-- Every step's facts. -/
theorem pf (t : Fin (cfgA (⟨0, by omega⟩ : Fin 1)).N) : PF t := by
  have h0 : 0 ≤ t.val := Nat.zero_le _
  rcases Nat.lt_or_ge t.val 34 with h1 | h1; · exact pf_0 t h0 h1
  rcases Nat.lt_or_ge t.val 68 with h2 | h2; · exact pf_1 t h1 h2
  rcases Nat.lt_or_ge t.val 102 with h3 | h3; · exact pf_2 t h2 h3
  rcases Nat.lt_or_ge t.val 136 with h4 | h4; · exact pf_3 t h3 h4
  rcases Nat.lt_or_ge t.val 170 with h5 | h5; · exact pf_4 t h4 h5
  rcases Nat.lt_or_ge t.val 204 with h6 | h6; · exact pf_5 t h5 h6
  rcases Nat.lt_or_ge t.val 238 with h7 | h7; · exact pf_6 t h6 h7
  exact pf_7 t h7 t.isLt

/-- The last step of each query block's row of blocks. -/
theorem last_pt : ∀ b : Fin 16, ∃ t : Fin (cfgA (⟨0, by omega⟩ : Fin 1)).N, bN t.val = b.val ∧ ¬P0_0 0 t ∧ ¬P0_1 0 t ∧ P0_2 0 t := by
  decide +kernel

variable (m : (ℓ : Loc nD τ sig) → Buf (Elt Ideal) ℓ) (ρ : Dev nD → PrngReg)

/-- A step's query block. -/
theorem blkQ (c : Dev nD) (t : Fin (cfgA 0).N) (r : Fin 1024) (k : Fin 1024) :
    iblk 0 m ρ c 0 t (ix2 r k) = m ((c : Thread nD τ).loc main_arg2) (ix2 ⟨1024 * bN t.val + r.val, by have := (pf t).2.1.1; omega⟩ k) := by
  have h := (pf t).1.1
  show m ((c : Thread nD τ).loc main_arg2) _ = _
  refine congrArg _ (funext fun a => Fin.ext ?_)
  refine (Pipeline.Window.rect_emb_val ((cfgA 0).win 0) t _ a).trans ?_
  fin_cases a
  · show ((cfgA 0).win 0).index t (0 : Fin 2) * 1024 + r.val = 1024 * bN t.val + r.val
    rw [h.1]; omega
  · show ((cfgA 0).win 0).index t (1 : Fin 2) * 1024 + k.val = k.val
    rw [h.2]; omega

/-- A step's key block. -/
theorem blkK (c : Dev nD) (t : Fin (cfgA 0).N) (r : Fin 512) (k : Fin 1024) :
    iblk 0 m ρ c 1 t (ix2 r k) = m ((c : Thread nD τ).loc main_arg3) (ix2 ⟨512 * kN t.val + r.val, by have := (pf t).2.1.2; omega⟩ k) := by
  have h := (pf t).1.2.1
  show m ((c : Thread nD τ).loc main_arg3) _ = _
  refine congrArg _ (funext fun a => Fin.ext ?_)
  refine (Pipeline.Window.rect_emb_val ((cfgA 0).win 1) t _ a).trans ?_
  fin_cases a
  · show ((cfgA 0).win 1).index t (0 : Fin 2) * 512 + r.val = 512 * kN t.val + r.val
    rw [h.1]; omega
  · show ((cfgA 0).win 1).index t (1 : Fin 2) * 1024 + k.val = k.val
    rw [h.2]; omega

/-- A step's value block. -/
theorem blkV (c : Dev nD) (t : Fin (cfgA 0).N) (r : Fin 512) (k : Fin 1024) :
    iblk 0 m ρ c 2 t (ix2 r k) = m ((c : Thread nD τ).loc main_arg4) (ix2 ⟨512 * kN t.val + r.val, by have := (pf t).2.1.2; omega⟩ k) := by
  have h := (pf t).1.2.2.1
  show m ((c : Thread nD τ).loc main_arg4) _ = _
  refine congrArg _ (funext fun a => Fin.ext ?_)
  refine (Pipeline.Window.rect_emb_val ((cfgA 0).win 2) t _ a).trans ?_
  fin_cases a
  · show ((cfgA 0).win 2).index t (0 : Fin 2) * 512 + r.val = 512 * kN t.val + r.val
    rw [h.1]; omega
  · show ((cfgA 0).win 2).index t (1 : Fin 2) * 1024 + k.val = k.val
    rw [h.2]; omega

/-- Where an element of a step's result block lies in the result. -/
theorem embO (t : Fin (cfgA 0).N) (r : Fin 1024) (k : Fin 512) :
    (((cfgA 0).win 3).blk t).view.emb (ix2 r k) = ix2 ⟨1024 * bN t.val + r.val, by have := (pf t).2.1.1; omega⟩ k := by
  have h := (pf t).1.2.2.2
  refine funext fun a => Fin.ext ?_
  refine (Pipeline.Window.rect_emb_val ((cfgA 0).win 3) t _ a).trans ?_
  fin_cases a
  · show ((cfgA 0).win 3).index t (0 : Fin 2) * 1024 + r.val = 1024 * bN t.val + r.val
    rw [h.1]; omega
  · show ((cfgA 0).win 3).index t (1 : Fin 2) * 512 + k.val = k.val
    rw [h.2]; omega

end Cert.LatentIdeal.Hand

end
-- ==== Proof.RealSums.lean ====
module

public import Idealize.ShloMosaic.PureOps.Ideal
public import Idealize.ShloMosaic.PureOps.Ideal.Laws

@[expose] public section

noncomputable section

namespace Cert.RealSums

open Idealize.ShloMosaic

/-- An extended real that is a real number. -/
def Fin' (a : EReal) : Prop := ∃ r : ℝ, a = (r : EReal)

/-- A product of two reals is real. -/
theorem Fin'.mul {a b : EReal} : Fin' a → Fin' b → Fin' (a * b) := by
  rintro ⟨r, rfl⟩ ⟨s, rfl⟩
  exact ⟨r * s, (EReal.coe_mul r s).symm⟩

/-- A sum of two reals is real. -/
theorem Fin'.add {a b : EReal} : Fin' a → Fin' b → Fin' (a + b) := by
  rintro ⟨r, rfl⟩ ⟨s, rfl⟩
  exact ⟨r + s, (EReal.coe_add r s).symm⟩

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A finite sum of real terms is real. -/
theorem Fin'.sum {ι : Type*} {s : Finset ι} {f : ι → EReal} (h : ∀ i, Fin' (f i)) : Fin' (∑ i ∈ s, f i) := by
  choose r hr using h
  exact ⟨∑ i ∈ s, r i, by rw [coe_sum]; exact Finset.sum_congr rfl fun i _ => hr i⟩

/-- A real factor moves into a finite sum of real terms. -/
theorem mul_sum {ι : Type*} {s : Finset ι} {a : EReal} {f : ι → EReal} (ha : Fin' a) (h : ∀ i, Fin' (f i)) :
    a * ∑ i ∈ s, f i = ∑ i ∈ s, a * f i := by
  obtain ⟨b, rfl⟩ := ha
  choose r hr using h
  have e : f = fun i => (r i : EReal) := funext hr
  rw [e, ← coe_sum, ← EReal.coe_mul, Finset.mul_sum, coe_sum]
  exact Finset.sum_congr rfl fun i _ => EReal.coe_mul _ _

/-- The logistic of a real is real. -/
theorem Fin'.logistic {a : EReal} (h : Fin' a) : Fin' (Ideal.logistic a) := by
  obtain ⟨r, rfl⟩ := h
  have hpos : (0 : ℝ) < 1 + Real.exp (-r) := by positivity
  refine ⟨1 * (1 + Real.exp (-r))⁻¹, ?_⟩
  have e : (1 : EReal) + Ideal.exp (-(r : EReal)) = ((1 + Real.exp (-r) : ℝ) : EReal) := by
    rw [EReal.coe_add]
    rfl
  show Ideal.div 1 (1 + Ideal.exp (-(r : EReal))) = _
  rw [e]
  unfold Ideal.div
  rw [if_neg (by exact_mod_cast hpos.ne'), EReal.coe_mul, EReal.coe_inv]
  rfl

/-- A sum over `Fin 2048` is a sum over eight blocks of 256. -/
theorem sum_blocks (f : Fin 2048 → EReal) :
    ∑ y : Fin 2048, f y = ∑ k : Fin 8, ∑ l : Fin 256, f ⟨256 * k.val + l.val, by omega⟩ := by
  have e := Fintype.sum_equiv (finProdFinEquiv : Fin 8 × Fin 256 ≃ Fin 2048) (fun p => f (finProdFinEquiv p)) f (fun _ => rfl)
  rw [← e, Fintype.sum_prod_type]
  refine Finset.sum_congr rfl fun k _ => Finset.sum_congr rfl fun l _ => congrArg f (Fin.ext ?_)
  show l.val + 256 * k.val = 256 * k.val + l.val
  omega

/-- A sum over 32 experts that vanishes outside group `g` is the sum over the eight experts of `g`. -/
theorem sum_group (f : Fin 32 → EReal) (g : Fin 4) (h : ∀ e : Fin 32, e.val / 8 ≠ g.val → f e = 0) :
    ∑ e : Fin 32, f e = ∑ k : Fin 8, f ⟨8 * g.val + k.val, by omega⟩ := by
  have e := Fintype.sum_equiv (finProdFinEquiv : Fin 4 × Fin 8 ≃ Fin 32) (fun p => f (finProdFinEquiv p)) f (fun _ => rfl)
  rw [← e, Fintype.sum_prod_type, Finset.sum_eq_single g]
  · refine Finset.sum_congr rfl fun k _ => congrArg f (Fin.ext ?_)
    show k.val + 8 * g.val = 8 * g.val + k.val
    omega
  · intro b _ hb
    refine Finset.sum_eq_zero fun k _ => h _ ?_
    show (k.val + 8 * b.val) / 8 ≠ g.val
    have : b.val ≠ g.val := fun q => hb (Fin.ext q)
    omega
  · exact fun q => absurd (Finset.mem_univ g) q

end Cert.RealSums

end
-- ==== Proof.LatentSum.lean ====
module

public import proofs.«01_k».proof.Proof.RealSums

@[expose] public section

noncomputable section

namespace Cert.LatentSum

open Idealize.ShloMosaic Cert.RealSums

/-- A score: a real number, or minus infinity where the key is masked. -/
def RB (a : EReal) : Prop := a = ⊥ ∨ Fin' a

/-- The largest of the first `n` scores. -/
def mR (S : ℕ → EReal) (n : ℕ) : EReal := (Finset.range n).sup S

/-- The weight of a score below a maximum. -/
def wt (s μ : EReal) : EReal := Ideal.exp2 (s - μ)

/-- The weighted sum of the first `n` values. -/
def aR (S V : ℕ → EReal) (n : ℕ) : EReal := ∑ j ∈ Finset.range n, wt (S j) (mR S n) * V j

/-- The maximum after one more score. -/
theorem mR_succ (S : ℕ → EReal) (n : ℕ) : mR S (n + 1) = max (S n) (mR S n) := by
  unfold mR
  rw [Finset.range_add_one, Finset.sup_insert]

/-- The maximum of scores of which the first is real is real. -/
theorem mR_real (S : ℕ → EReal) (h0 : Fin' (S 0)) (hS : ∀ j, RB (S j)) : ∀ n, 0 < n → Fin' (mR S n)
  | 0, h => absurd h (lt_irrefl 0)
  | 1, _ => by
    rw [mR_succ]
    have : mR S 0 = ⊥ := by simp [mR]
    rw [this, max_bot_right]
    exact h0
  | n + 2, _ => by
    rw [mR_succ]
    have ih := mR_real S h0 hS (n + 1) (Nat.succ_pos n)
    rcases hS (n + 1) with h | h
    · rw [h, max_bot_left]
      exact ih
    · rcases max_choice (S (n + 1)) (mR S (n + 1)) with e | e <;> rw [e]
      · exact h
      · exact ih

/-- The maximum after 512 more scores. -/
theorem mR_step (S : ℕ → EReal) (n : ℕ) : max (mR S n) (Finset.univ.sup fun j : Fin 512 => S (n + j.val)) = mR S (n + 512) := by
  apply le_antisymm
  · refine max_le (Finset.sup_mono fun j hj => ?_) (Finset.sup_le fun j _ => ?_)
    · rw [Finset.mem_range] at hj ⊢
      omega
    · exact Finset.le_sup (f := S) (by rw [Finset.mem_range]; omega)
  · refine Finset.sup_le fun j hj => ?_
    rw [Finset.mem_range] at hj
    by_cases h : j < n
    · exact le_max_of_le_left (Finset.le_sup (f := S) (Finset.mem_range.mpr h))
    · refine le_max_of_le_right ?_
      have := Finset.le_sup (f := fun j : Fin 512 => S (n + j.val)) (Finset.mem_univ (⟨j - n, by omega⟩ : Fin 512))
      refine le_trans (le_of_eq (congrArg S ?_)) this
      show j = n + (j - n)
      omega

/-- The weight of a real score is a power of two. -/
theorem wt_coe (s μ : ℝ) : wt (s : EReal) (μ : EReal) = ((2 : ℝ) ^ (s - μ) : ℝ) := by
  unfold wt
  rw [← EReal.coe_sub]
  rfl

/-- A masked key has no weight. -/
theorem wt_bot (μ : EReal) (h : Fin' μ) : wt ⊥ μ = 0 := by
  obtain ⟨m, rfl⟩ := h
  unfold wt
  rw [EReal.bot_sub]
  exact Ideal.exp2_bot

/-- Every weight is a nonnegative real. -/
theorem wt_fin {s μ : EReal} (hs : RB s) (hμ : Fin' μ) : ∃ r : ℝ, 0 ≤ r ∧ wt s μ = (r : EReal) := by
  rcases hs with rfl | ⟨r, rfl⟩
  · exact ⟨0, le_refl 0, (wt_bot μ hμ).trans EReal.coe_zero.symm⟩
  · obtain ⟨m, rfl⟩ := hμ
    exact ⟨_, (Real.rpow_pos_of_pos (by norm_num) _).le, wt_coe r m⟩

/-- Changing the maximum that a weight is relative to. -/
theorem wt_mul {s μ ν : EReal} (hs : RB s) (hμ : Fin' μ) (hν : Fin' ν) : wt s μ * wt μ ν = wt s ν := by
  rcases hs with rfl | ⟨r, rfl⟩
  · rw [wt_bot μ hμ, wt_bot ν hν, zero_mul]
  · obtain ⟨m, rfl⟩ := hμ
    obtain ⟨k, rfl⟩ := hν
    rw [wt_coe, wt_coe, wt_coe, ← EReal.coe_mul, ← Real.rpow_add (by norm_num)]
    congr 2
    ring

/-- A nonnegative real factor goes into a sum of any extended reals. -/
theorem nonneg_mul_sum {r : ℝ} (hr : 0 ≤ r) (f : ℕ → EReal) (n : ℕ) :
    (r : EReal) * ∑ j ∈ Finset.range n, f j = ∑ j ∈ Finset.range n, (r : EReal) * f j := by
  induction n with
  | zero => simp
  | succ n ih =>
    rw [Finset.sum_range_succ, Finset.sum_range_succ, EReal.left_distrib_of_nonneg_of_ne_top (by exact_mod_cast hr) (EReal.coe_ne_top r), ih]

/-- The weighted sum after 512 more keys. -/
theorem aR_step (S V : ℕ → EReal) (h0 : Fin' (S 0)) (hS : ∀ j, RB (S j)) (n : ℕ) :
    aR S V n * wt (mR S n) (mR S (n + 512)) + ∑ j : Fin 512, wt (S (n + j.val)) (mR S (n + 512)) * V (n + j.val) = aR S V (n + 512) := by
  have hn := mR_real S h0 hS (n + 512) (by omega)
  have e1 : aR S V n * wt (mR S n) (mR S (n + 512)) = ∑ j ∈ Finset.range n, wt (S j) (mR S (n + 512)) * V j := by
    rcases Nat.eq_zero_or_pos n with rfl | hp
    · simp [aR]
    · have hm := mR_real S h0 hS n hp
      obtain ⟨r, hr, e⟩ := wt_fin (Or.inr hm) hn
      unfold aR
      rw [mul_comm, e, nonneg_mul_sum hr, ← e]
      refine Finset.sum_congr rfl fun j _ => ?_
      rw [← wt_mul (hS j) hm hn, mul_comm, mul_right_comm]
  rw [e1]
  unfold aR
  rw [Finset.sum_range_add, Finset.sum_range (n := 512)]

/-- Masked keys at the end do not change the maximum. -/
theorem mR_tail (S : ℕ → EReal) {n N : ℕ} (hN : n ≤ N) (ht : ∀ j, n ≤ j → S j = ⊥) : mR S N = mR S n := by
  apply le_antisymm
  · refine Finset.sup_le fun j _ => ?_
    by_cases h : j < n
    · exact Finset.le_sup (f := S) (Finset.mem_range.mpr h)
    · rw [ht j (by omega)]
      exact bot_le
  · exact Finset.sup_mono fun j hj => Finset.mem_range.mpr (lt_of_lt_of_le (Finset.mem_range.mp hj) hN)

/-- Masked keys at the end do not change the weighted sum. -/
theorem aR_tail (S V : ℕ → EReal) {n N : ℕ} (hN : n ≤ N) (ht : ∀ j, n ≤ j → S j = ⊥) (hm : Fin' (mR S n)) : aR S V N = aR S V n := by
  unfold aR
  rw [mR_tail S hN ht]
  symm
  refine Finset.sum_subset (fun j hj => Finset.mem_range.mpr (lt_of_lt_of_le (Finset.mem_range.mp hj) hN)) fun j _ hj => ?_
  rw [ht j (by simpa using hj), wt_bot _ hm, zero_mul]

/-- The weighted sum divided by the sum of the weights, key by key. -/
theorem quot (S V : ℕ → EReal) (h0 : Fin' (S 0)) (hS : ∀ j, RB (S j)) (n : ℕ) (hn : 0 < n) :
    aR S V n * Ideal.div 1 (aR S (fun _ => 1) n)
      = ∑ j ∈ Finset.range n, Ideal.div (wt (S j) (mR S n)) (∑ k ∈ Finset.range n, wt (S k) (mR S n)) * V j := by
  have hm := mR_real S h0 hS n hn
  choose w hw0 hw using fun j => wt_fin (hS j) hm
  have e1 : aR S (fun _ => 1) n = ∑ k ∈ Finset.range n, wt (S k) (mR S n) := by
    unfold aR
    simp only [mul_one]
  have e2 : (∑ k ∈ Finset.range n, wt (S k) (mR S n)) = ((∑ k ∈ Finset.range n, w k : ℝ) : EReal) := by
    rw [coe_sum]
    exact Finset.sum_congr rfl fun k _ => hw k
  have hw0' : 0 < w 0 := by
    obtain ⟨r, hr⟩ := h0
    obtain ⟨μ, hμ⟩ := hm
    have := hw 0
    rw [hr, hμ, wt_coe] at this
    rw [← EReal.coe_eq_coe_iff.mp this]
    exact Real.rpow_pos_of_pos (by norm_num) _
  have hpos : 0 < ∑ k ∈ Finset.range n, w k :=
    Finset.sum_pos' (fun k _ => hw0 k) ⟨0, Finset.mem_range.mpr hn, hw0'⟩
  have hd : ∀ x : EReal, Ideal.div x ((∑ k ∈ Finset.range n, w k : ℝ) : EReal) = x * ((∑ k ∈ Finset.range n, w k)⁻¹ : ℝ) := by
    intro x
    unfold Ideal.div
    rw [if_neg (by exact_mod_cast hpos.ne'), EReal.coe_inv]
  rw [e1, e2]
  simp only [hd, one_mul]
  unfold aR
  rw [mul_comm, nonneg_mul_sum (inv_nonneg.mpr hpos.le)]
  refine Finset.sum_congr rfl fun j _ => ?_
  rw [← mul_assoc, mul_comm (((∑ k ∈ Finset.range n, w k)⁻¹ : ℝ) : EReal)]

/-- Scores scaled by the logarithm of two, under the natural exponential, weigh the same. -/
theorem exp_wt {s μ : EReal} (hs : RB s) (hμ : Fin' μ) :
    Ideal.exp (s * ((Real.log 2 : ℝ) : EReal) - μ * ((Real.log 2 : ℝ) : EReal)) = wt s μ := by
  obtain ⟨m, rfl⟩ := hμ
  rcases hs with rfl | ⟨r, rfl⟩
  · rw [wt_bot _ ⟨m, rfl⟩, EReal.bot_mul_coe_of_pos (Real.log_pos (by norm_num)), ← EReal.coe_mul, EReal.bot_sub]
    exact Ideal.exp_bot
  · rw [wt_coe, ← EReal.coe_mul, ← EReal.coe_mul, ← EReal.coe_sub]
    show ((Real.exp (r * Real.log 2 - m * Real.log 2) : ℝ) : EReal) = _
    rw [Real.rpow_def_of_pos (by norm_num)]
    congr 2
    ring

/-- The largest of the scaled scores is the scaled largest score. -/
theorem sup_scale (S : ℕ → EReal) (n : ℕ) :
    ((Finset.range n).sup fun j => S j * ((Real.log 2 : ℝ) : EReal)) = mR S n * ((Real.log 2 : ℝ) : EReal) := by
  have hp : (0 : ℝ) < Real.log 2 := Real.log_pos (by norm_num)
  induction n with
  | zero => simp [mR, EReal.bot_mul_coe_of_pos hp]
  | succ n ih =>
    rw [Finset.range_add_one, Finset.sup_insert, ih, mR_succ]
    have mono : Monotone fun x : EReal => x * ((Real.log 2 : ℝ) : EReal) := fun a b h =>
      mul_le_mul_of_nonneg_right h (by exact_mod_cast hp.le)
    exact (mono.map_max).symm

end Cert.LatentSum

end
-- ==== Proof.LatentScores.lean ====
module

public import proofs.«01_k».proof.Proof.LatentPoints
public import proofs.«01_k».proof.Proof.LatentSum

@[expose] public section

set_option maxRecDepth 16384

noncomputable section

namespace Cert.LatentIdeal.Hand

open Cert.LatentIdeal Cert.LatentIdeal.Gen
open Idealize.ShloMosaic
open Idealize.ShloMosaic.TcCoe
open Cert.RealSums Cert.LatentSum

/-- The causal scores of row `n` for head `h`: the products with the keys up to the row, and below every number after it. -/
def SS (q k : S16384x1024.Idx → EReal) (n : Fin 16384) (h : Fin 8) (j : ℕ) : EReal :=
  if hj : j ≤ n.val then ∑ d : Fin 128, q (ix2 n ⟨128 * h.val + d.val, by omega⟩) * k (ix2 ⟨j, by omega⟩ ⟨128 * h.val + d.val, by omega⟩) else ⊥

/-- Lane `l` of head `h` of the values. -/
def VV (v : S16384x1024.Idx → EReal) (h : Fin 8) (l : Fin 128) (j : ℕ) : EReal :=
  if hj : j < 16384 then v (ix2 ⟨j, hj⟩ ⟨128 * h.val + l.val, by omega⟩) else 0

/-- A row of query block `b`. -/
def row (b : ℕ) (r : Fin 1024) : Fin 16384 := ⟨(1024 * b + r.val) % 16384, Nat.mod_lt _ (by norm_num)⟩

/-- The running maxima of query block `b` after `n` keys. -/
def MM (q k : S16384x1024.Idx → EReal) (b n : ℕ) : Fin 8 → Fin 1024 → EReal := fun h r => mR (SS q k (row b r) h) n

/-- The accumulators of query block `b` after `n` keys. -/
def AA (q k v : S16384x1024.Idx → EReal) (b n : ℕ) : Fin 8 → Fin 1024 → Fin 128 → EReal := fun h r l => aR (SS q k (row b r) h) (VV v h l) n

/-- Before the first key the maxima are below every number. -/
theorem MM_zero (q k : S16384x1024.Idx → EReal) (b : ℕ) : MM q k b 0 = fun _ _ => ⊥ := by
  funext h r
  simp [MM, mR]

/-- Before the first key the accumulators are zero. -/
theorem AA_zero (q k v : S16384x1024.Idx → EReal) (b : ℕ) : AA q k v b 0 = fun _ _ _ => 0 := by
  funext h r l
  simp [AA, aR]

/-- A product of finite rows is finite. -/
theorem dot_fin {q k : S16384x1024.Idx → EReal} (hq : ∀ x, Fin' (q x)) (hk : ∀ x, Fin' (k x)) (a b : Fin 128 → S16384x1024.Idx) :
    Fin' (∑ d : Fin 128, q (a d) * k (b d)) := by
  choose f hf using hq
  choose g hg using hk
  exact ⟨∑ d : Fin 128, f (a d) * g (b d), by
    rw [coe_sum]
    exact Finset.sum_congr rfl fun d _ => by rw [hf, hg, EReal.coe_mul]⟩

/-- The first score is a real number. -/
theorem SS_zero {q k : S16384x1024.Idx → EReal} (hq : ∀ x, Fin' (q x)) (hk : ∀ x, Fin' (k x)) (n : Fin 16384) (h : Fin 8) : Fin' (SS q k n h 0) := by
  unfold SS
  rw [dif_pos (Nat.zero_le _)]
  exact dot_fin hq hk _ _

/-- Every score is a real number or below every number. -/
theorem SS_rb {q k : S16384x1024.Idx → EReal} (hq : ∀ x, Fin' (q x)) (hk : ∀ x, Fin' (k x)) (n : Fin 16384) (h : Fin 8) (j : ℕ) : RB (SS q k n h j) := by
  unfold SS
  split
  · exact Or.inr (dot_fin hq hk _ _)
  · exact Or.inl rfl

/-- The keys after a row have no score. -/
theorem SS_tail (q k : S16384x1024.Idx → EReal) (n : Fin 16384) (h : Fin 8) {j : ℕ} (hj : n.val < j) : SS q k n h j = ⊥ := by
  unfold SS
  rw [dif_neg (by omega)]

/-- One key block moves the maxima on. -/
theorem stepM_MM (q k : S16384x1024.Idx → EReal) (b n : ℕ) (s : Fin 8 → Fin 1024 → Fin 512 → EReal)
    (hs : ∀ h r j, s h r j = SS q k (row b r) h (n + j.val)) : stepM s (MM q k b n) = MM q k b (n + 512) := by
  funext h r
  have : s h r = fun j : Fin 512 => SS q k (row b r) h (n + j.val) := funext fun j => hs h r j
  unfold stepM
  rw [this]
  exact mR_step _ n

/-- One key block moves the accumulators on. -/
theorem stepA_AA {q k v : S16384x1024.Idx → EReal} (hq : ∀ x, Fin' (q x)) (hk : ∀ x, Fin' (k x)) (b n : ℕ)
    (s : Fin 8 → Fin 1024 → Fin 512 → EReal) (x2 : S512x1024.Idx → EReal) (hs : ∀ h r j, s h r j = SS q k (row b r) h (n + j.val))
    (hx : ∀ (h : Fin 8) (l : Fin 128) (j : Fin 512), x2 (ix2 j ⟨128 * h.val + l.val, by omega⟩) = VV v h l (n + j.val)) :
    stepA s (MM q k b n) (AA q k v b n) x2 = AA q k v b (n + 512) := by
  funext h r l
  unfold stepA
  rw [stepM_MM q k b n s hs]
  refine Eq.trans ?_ (aR_step (SS q k (row b r) h) (VV v h l) (SS_zero hq hk _ h) (SS_rb hq hk _ h) n)
  refine congrArg (fun z : EReal => _ + z) (Finset.sum_congr rfl fun j _ => ?_)
  rw [hs, hx]
  rfl

/-- A small number read as a signed word. -/
theorem toInt_small (n : ℕ) (h : n < 2048) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

/-- The comparison of the first diagonal block. -/
theorem sle0 (r j : ℕ) (hr : r < 1024) (hj : j < 512) : (BitVec.ofNat 32 j).sle (BitVec.ofNat 32 r + 0#32) = decide (j ≤ r) := by
  rw [BitVec.sle, BitVec.add_zero, toInt_small j (by omega), toInt_small r (by omega)]
  exact decide_eq_decide.mpr Int.ofNat_le

/-- The comparison of the second diagonal block. -/
theorem sle1 (r j : ℕ) (hr : r < 1024) (hj : j < 512) (w : BitVec 32) (hw : w.toNat = 4294966784) :
    (BitVec.ofNat 32 j).sle (BitVec.ofNat 32 r + w) = decide (512 + j ≤ r) := by
  have e : (BitVec.ofNat 32 r).toNat = r := by rw [BitVec.toNat_ofNat]; exact Nat.mod_eq_of_lt (by omega)
  have e2 : (BitVec.ofNat 32 r + w).toInt = (r : Int) - 512 := by
    have e3 : (BitVec.ofNat 32 r + w).toNat = (r + 4294966784) % 2 ^ 32 := by rw [BitVec.toNat_add, e, hw]
    rw [BitVec.toInt_eq_toNat_cond, e3]
    split <;> omega
  rw [BitVec.sle, e2, toInt_small j (by omega)]
  exact decide_eq_decide.mpr (by omega)

/-- The mask of the first of the two diagonal key blocks. -/
theorem mask0 (r : Fin 1024) (j : Fin 512) (a b : EReal) :
    Scalar.select (IntOp.cmpi .sge (BitVec.ofNat 32 r.val + 0#32) (BitVec.ofNat 32 j.val)) a b = if j.val ≤ r.val then a else b := by
  unfold IntOp.cmpi Scalar.select
  dsimp only
  rw [sle0 r.val j.val r.isLt j.isLt]
  by_cases p : j.val ≤ r.val
  · rw [decide_eq_true p, if_pos p]; rfl
  · rw [decide_eq_false p, if_neg p]; rfl

/-- The mask of the second of the two diagonal key blocks. -/
theorem mask1 (r : Fin 1024) (j : Fin 512) (a b : EReal) :
    Scalar.select (IntOp.cmpi .sge (BitVec.ofNat 32 r.val + 4294966784#32) (BitVec.ofNat 32 j.val)) a b = if 512 + j.val ≤ r.val then a else b := by
  unfold IntOp.cmpi Scalar.select
  dsimp only
  rw [sle1 r.val j.val r.isLt j.isLt _ (by decide)]
  by_cases p : 512 + j.val ≤ r.val
  · rw [decide_eq_true p, if_pos p]; rfl
  · rw [decide_eq_false p, if_neg p]; rfl

end Cert.LatentIdeal.Hand

end
-- ==== Proof.LatentStep.lean ====
module

public import proofs.«01_k».proof.Proof.LatentPoints
public import proofs.«01_k».proof.Proof.LatentScores

@[expose] public section

set_option maxRecDepth 16384

noncomputable section

namespace Cert.LatentIdeal.Hand

open Cert.LatentIdeal Cert.LatentIdeal.Gen
open Idealize.ShloMosaic
open Idealize.ShloMosaic.TcCoe
open Cert.RealSums Cert.LatentSum

/-- The query block is one of the sixteen. -/
theorem b_lt (t : Fin (cfgA (⟨0, by omega⟩ : Fin 1)).N) : bN t.val < 16 := (pf t).2.1.1

/-- The key block is one of the thirty-two. -/
theorem k_lt (t : Fin (cfgA (⟨0, by omega⟩ : Fin 1)).N) : kN t.val < 32 := (pf t).2.1.2

variable (m : (ℓ : Loc nD τ sig) → Buf (Elt Ideal) ℓ) (ρ : Dev nD → PrngReg)

/-- The queries. -/
abbrev qA (c : Dev nD) : S16384x1024.Idx → EReal := m ((c : Thread nD τ).loc main_arg2)
/-- The keys. -/
abbrev kA (c : Dev nD) : S16384x1024.Idx → EReal := m ((c : Thread nD τ).loc main_arg3)
/-- The values. -/
abbrev vA (c : Dev nD) : S16384x1024.Idx → EReal := m ((c : Thread nD τ).loc main_arg4)

/-- The products of a step's blocks. -/
theorem sU_eq (c : Dev nD) (t : Fin (cfgA 0).N) (h : Fin 8) (r : Fin 1024) (j : Fin 512) :
    sU (iblk 0 m ρ c (0 : Fin 4) t) (iblk 0 m ρ c (1 : Fin 4) t) h r j
      = ∑ d : Fin 128, qA m c (ix2 (row (bN t.val) r) ⟨128 * h.val + d.val, by omega⟩)
          * kA m c (ix2 ⟨512 * kN t.val + j.val, by have := k_lt t; omega⟩ ⟨128 * h.val + d.val, by omega⟩) := by
  unfold sU
  refine Finset.sum_congr rfl fun d _ => ?_
  rw [blkQ, blkK]
  have e : (⟨1024 * bN t.val + r.val, by have := b_lt t; omega⟩ : Fin 16384) = row (bN t.val) r :=
    Fin.ext (Nat.mod_eq_of_lt (by have := b_lt t; omega)).symm
  rw [e]

/-- The scores of a step off the diagonal. -/
theorem sU_SS (c : Dev nD) (t : Fin (cfgA 0).N) (q1 : P0_1 0 t) (h : Fin 8) (r : Fin 1024) (j : Fin 512) :
    sU (iblk 0 m ρ c (0 : Fin 4) t) (iblk 0 m ρ c (1 : Fin 4) t) h r j = SS (qA m c) (kA m c) (row (bN t.val) r) h (512 * kN t.val + j.val) := by
  have hb := b_lt t
  have h1 := (pf t).2.2.2.2.1 q1
  have er : (row (bN t.val) r).val = 1024 * bN t.val + r.val := Nat.mod_eq_of_lt (by omega)
  rw [sU_eq]
  unfold SS
  rw [dif_pos (by omega)]

/-- The scores of a step on the diagonal. -/
theorem sM_SS (c : Dev nD) (t : Fin (cfgA 0).N) (q1 : ¬P0_1 0 t) (h : Fin 8) (r : Fin 1024) (j : Fin 512) :
    sM (wW (crd 0 t) (pinT_0 0) (pinT_1 0)) (iblk 0 m ρ c (0 : Fin 4) t) (iblk 0 m ρ c (1 : Fin 4) t) h r j
      = SS (qA m c) (kA m c) (row (bN t.val) r) h (512 * kN t.val + j.val) := by
  have hb := b_lt t
  have er : (row (bN t.val) r).val = 1024 * bN t.val + r.val := Nat.mod_eq_of_lt (by omega)
  unfold sM
  rcases (pf t).2.2.2.2.2.1 q1 with ⟨hw, hk⟩ | ⟨hw, hk⟩
  · rw [hw, mask0, sU_eq]
    unfold SS
    by_cases p : j.val ≤ r.val
    · rw [if_pos p, dif_pos (by omega)]
    · rw [if_neg p, dif_neg (by omega)]
  · rw [hw, mask1, sU_eq]
    unfold SS
    by_cases p : 512 + j.val ≤ r.val
    · rw [if_pos p, dif_pos (by omega)]
    · rw [if_neg p, dif_neg (by omega)]

/-- The values of a step's block. -/
theorem v_VV (c : Dev nD) (t : Fin (cfgA 0).N) (h : Fin 8) (l : Fin 128) (j : Fin 512) :
    (iblk 0 m ρ c (2 : Fin 4) t : S512x1024.Idx → EReal) (ix2 j ⟨128 * h.val + l.val, by omega⟩) = VV (vA m c) h l (512 * kN t.val + j.val) := by
  have := k_lt t
  unfold VV
  rw [dif_pos (by omega)]
  exact blkV m ρ c t j _

end Cert.LatentIdeal.Hand

end
-- ==== Proof.LatentPathA.lean ====
module

public import proofs.«01_k».proof.Proof.LatentPaths

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)

set_option maxHeartbeats 1000000 in
/-- The maxima that the very first block leaves. -/
theorem A_m (hc0 hc1 hc2 h4) :
    (kernelRun0_A c i arg3 harg3 arg4 harg4 arg5 harg5 arg6 harg6 T0 T1 x0 x1 x2 hc0 hc1 hc2 h4).1 = toM (stepM (sM (wW i T0 T1) x0 x1) fun _ _ => ⊥) := by
  unfold kernelRun0_A; dsimp only
  sl_unfold_run_names
  simp (disch := first | decide | (intro a; fin_cases a <;> rfl)) only [↓View.readCov_skip, ↓View.readCov_fill, ↓cat4_eq, pay1_eq, pay2_eq, View.readAt_eq_ld,
    View.read_rep, View.read_whole, k0_pay4, k0_pay5]
  refine scr8_0 (toM (stepM (sM (wW i T0 T1) x0 x1) fun _ _ => ⊥)) _ (canon8 (toM (stepM (sM (wW i T0 T1) x0 x1) fun _ _ => ⊥)) _ _ _ _ _ _ _ _ _ _ _ _ _ _ _ _ _ ?_ ?_ ?_ ?_ ?_ ?_ ?_ ?_)
  · exact fun x => headM_m 7 lt7 (wW i T0 T1) x0 x1 (fun _ _ => ⊥) inb_S8x1024x128_S1x1024x128_7_0_0 x
  · exact fun x => headM_m 6 lt6 (wW i T0 T1) x0 x1 (fun _ _ => ⊥) inb_S8x1024x128_S1x1024x128_6_0_0 x
  · exact fun x => headM_m 5 lt5 (wW i T0 T1) x0 x1 (fun _ _ => ⊥) inb_S8x1024x128_S1x1024x128_5_0_0 x
  · exact fun x => headM_m 4 lt4 (wW i T0 T1) x0 x1 (fun _ _ => ⊥) inb_S8x1024x128_S1x1024x128_4_0_0 x
  · exact fun x => headM_m 3 lt3 (wW i T0 T1) x0 x1 (fun _ _ => ⊥) inb_S8x1024x128_S1x1024x128_3_0_0 x
  · exact fun x => headM_m 2 lt2 (wW i T0 T1) x0 x1 (fun _ _ => ⊥) inb_S8x1024x128_S1x1024x128_2_0_0 x
  · exact fun x => headM_m 1 lt1 (wW i T0 T1) x0 x1 (fun _ _ => ⊥) inb_S8x1024x128_S1x1024x128_1_0_0 x
  · exact fun x => headM_m 0 lt0 (wW i T0 T1) x0 x1 (fun _ _ => ⊥) inb_S8x1024x128_S1x1024x128_0_0_0 x

set_option maxHeartbeats 1000000 in
/-- The accumulators that the very first block leaves. -/
theorem A_a (hc0 hc1 hc2 h4) :
    (kernelRun0_A c i arg3 harg3 arg4 harg4 arg5 harg5 arg6 harg6 T0 T1 x0 x1 x2 hc0 hc1 hc2 h4).2.1 = toA (stepA (sM (wW i T0 T1) x0 x1) (fun _ _ => ⊥) (fun _ _ _ => 0) x2) := by
  unfold kernelRun0_A; dsimp only
  sl_unfold_run_names
  simp (disch := first | decide | (intro a; fin_cases a <;> rfl)) only [↓View.readCov_skip, ↓View.readCov_fill, ↓cat4_eq, pay1_eq, pay2_eq, View.readAt_eq_ld,
    View.read_rep, View.read_whole, k0_pay4, k0_pay5]
  refine scr8_1 (toA (stepA (sM (wW i T0 T1) x0 x1) (fun _ _ => ⊥) (fun _ _ _ => 0) x2)) _ (canon8 (toA (stepA (sM (wW i T0 T1) x0 x1) (fun _ _ => ⊥) (fun _ _ _ => 0) x2)) _ _ _ _ _ _ _ _ _ _ _ _ _ _ _ _ _ ?_ ?_ ?_ ?_ ?_ ?_ ?_ ?_)
  · exact fun x => headM_a 7 lt7 (wW i T0 T1) x0 x1 x2 (fun _ _ => ⊥) (fun _ _ _ => 0) inb_S8x1024x128_S1x1024x128_7_0_0 x
  · exact fun x => headM_a 6 lt6 (wW i T0 T1) x0 x1 x2 (fun _ _ => ⊥) (fun _ _ _ => 0) inb_S8x1024x128_S1x1024x128_6_0_0 x
  · exact fun x => headM_a 5 lt5 (wW i T0 T1) x0 x1 x2 (fun _ _ => ⊥) (fun _ _ _ => 0) inb_S8x1024x128_S1x1024x128_5_0_0 x
  · exact fun x => headM_a 4 lt4 (wW i T0 T1) x0 x1 x2 (fun _ _ => ⊥) (fun _ _ _ => 0) inb_S8x1024x128_S1x1024x128_4_0_0 x
  · exact fun x => headM_a 3 lt3 (wW i T0 T1) x0 x1 x2 (fun _ _ => ⊥) (fun _ _ _ => 0) inb_S8x1024x128_S1x1024x128_3_0_0 x
  · exact fun x => headM_a 2 lt2 (wW i T0 T1) x0 x1 x2 (fun _ _ => ⊥) (fun _ _ _ => 0) inb_S8x1024x128_S1x1024x128_2_0_0 x
  · exact fun x => headM_a 1 lt1 (wW i T0 T1) x0 x1 x2 (fun _ _ => ⊥) (fun _ _ _ => 0) inb_S8x1024x128_S1x1024x128_1_0_0 x
  · exact fun x => headM_a 0 lt0 (wW i T0 T1) x0 x1 x2 (fun _ _ => ⊥) (fun _ _ _ => 0) inb_S8x1024x128_S1x1024x128_0_0_0 x

end Cert.LatentIdeal.Hand

end
-- ==== Proof.LatentPathC.lean ====
module

public import proofs.«01_k».proof.Proof.LatentPaths

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)

set_option maxHeartbeats 1000000 in
/-- The maxima that a row's first block leaves. -/
theorem C_m (hc0 hc1 hc2 h4) :
    (kernelRun0_C c i arg3 harg3 arg4 harg4 arg5 harg5 arg6 harg6 T0 T1 x0 x1 x2 hc0 hc1 hc2 h4).1 = toM (stepM (sU x0 x1) fun _ _ => ⊥) := by
  unfold kernelRun0_C; dsimp only
  sl_unfold_run_names
  simp (disch := first | decide | (intro a; fin_cases a <;> rfl)) only [↓View.readCov_skip, ↓View.readCov_fill, ↓cat4_eq, pay1_eq, pay2_eq, View.readAt_eq_ld,
    View.read_rep, View.read_whole, k0_pay4, k0_pay5]
  refine scr8_0 (toM (stepM (sU x0 x1) fun _ _ => ⊥)) _ (canon8 (toM (stepM (sU x0 x1) fun _ _ => ⊥)) _ _ _ _ _ _ _ _ _ _ _ _ _ _ _ _ _ ?_ ?_ ?_ ?_ ?_ ?_ ?_ ?_)
  · exact fun x => headU_m 7 lt7 x0 x1 (fun _ _ => ⊥) inb_S8x1024x128_S1x1024x128_7_0_0 x
  · exact fun x => headU_m 6 lt6 x0 x1 (fun _ _ => ⊥) inb_S8x1024x128_S1x1024x128_6_0_0 x
  · exact fun x => headU_m 5 lt5 x0 x1 (fun _ _ => ⊥) inb_S8x1024x128_S1x1024x128_5_0_0 x
  · exact fun x => headU_m 4 lt4 x0 x1 (fun _ _ => ⊥) inb_S8x1024x128_S1x1024x128_4_0_0 x
  · exact fun x => headU_m 3 lt3 x0 x1 (fun _ _ => ⊥) inb_S8x1024x128_S1x1024x128_3_0_0 x
  · exact fun x => headU_m 2 lt2 x0 x1 (fun _ _ => ⊥) inb_S8x1024x128_S1x1024x128_2_0_0 x
  · exact fun x => headU_m 1 lt1 x0 x1 (fun _ _ => ⊥) inb_S8x1024x128_S1x1024x128_1_0_0 x
  · exact fun x => headU_m 0 lt0 x0 x1 (fun _ _ => ⊥) inb_S8x1024x128_S1x1024x128_0_0_0 x

set_option maxHeartbeats 1000000 in
/-- The accumulators that a row's first block leaves. -/
theorem C_a (hc0 hc1 hc2 h4) :
    (kernelRun0_C c i arg3 harg3 arg4 harg4 arg5 harg5 arg6 harg6 T0 T1 x0 x1 x2 hc0 hc1 hc2 h4).2.1 = toA (stepA (sU x0 x1) (fun _ _ => ⊥) (fun _ _ _ => 0) x2) := by
  unfold kernelRun0_C; dsimp only
  sl_unfold_run_names
  simp (disch := first | decide | (intro a; fin_cases a <;> rfl)) only [↓View.readCov_skip, ↓View.readCov_fill, ↓cat4_eq, pay1_eq, pay2_eq, View.readAt_eq_ld,
    View.read_rep, View.read_whole, k0_pay4, k0_pay5]
  refine scr8_1 (toA (stepA (sU x0 x1) (fun _ _ => ⊥) (fun _ _ _ => 0) x2)) _ (canon8 (toA (stepA (sU x0 x1) (fun _ _ => ⊥) (fun _ _ _ => 0) x2)) _ _ _ _ _ _ _ _ _ _ _ _ _ _ _ _ _ ?_ ?_ ?_ ?_ ?_ ?_ ?_ ?_)
  · exact fun x => headU_a 7 lt7 x0 x1 x2 (fun _ _ => ⊥) (fun _ _ _ => 0) inb_S8x1024x128_S1x1024x128_7_0_0 x
  · exact fun x => headU_a 6 lt6 x0 x1 x2 (fun _ _ => ⊥) (fun _ _ _ => 0) inb_S8x1024x128_S1x1024x128_6_0_0 x
  · exact fun x => headU_a 5 lt5 x0 x1 x2 (fun _ _ => ⊥) (fun _ _ _ => 0) inb_S8x1024x128_S1x1024x128_5_0_0 x
  · exact fun x => headU_a 4 lt4 x0 x1 x2 (fun _ _ => ⊥) (fun _ _ _ => 0) inb_S8x1024x128_S1x1024x128_4_0_0 x
  · exact fun x => headU_a 3 lt3 x0 x1 x2 (fun _ _ => ⊥) (fun _ _ _ => 0) inb_S8x1024x128_S1x1024x128_3_0_0 x
  · exact fun x => headU_a 2 lt2 x0 x1 x2 (fun _ _ => ⊥) (fun _ _ _ => 0) inb_S8x1024x128_S1x1024x128_2_0_0 x
  · exact fun x => headU_a 1 lt1 x0 x1 x2 (fun _ _ => ⊥) (fun _ _ _ => 0) inb_S8x1024x128_S1x1024x128_1_0_0 x
  · exact fun x => headU_a 0 lt0 x0 x1 x2 (fun _ _ => ⊥) (fun _ _ _ => 0) inb_S8x1024x128_S1x1024x128_0_0_0 x

end Cert.LatentIdeal.Hand

end
-- ==== Proof.LatentPathE.lean ====
module

public import proofs.«01_k».proof.Proof.LatentPaths

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)
  (pm : Fin 8 → Fin 1024 → EReal) (pa : Fin 8 → Fin 1024 → Fin 128 → EReal)

set_option maxHeartbeats 400000 in
/-- The maxima that a masked block leaves. -/
theorem E_m (hc0 hc1 hc2 h4) :
    (kernelRun0_E c i arg3 harg3 arg4 harg4 arg5 harg5 arg6 harg6 T0 T1 x0 x1 x2 (toM pm) (toA pa) hc0 hc1 hc2 h4).1 = toM (stepM (sM (wW i T0 T1) x0 x1) pm) := by
  unfold kernelRun0_E; dsimp only
  sl_unfold_run_names
  simp only [↓cat4_eq, View.readAt_eq_ld, View.read_rep, View.read_whole, k0_pay4, k0_pay5]
  refine scr8_0 (toM (stepM (sM (wW i T0 T1) x0 x1) pm)) _ (canon8 (toM (stepM (sM (wW i T0 T1) x0 x1) pm)) _ _ _ _ _ _ _ _ _ _ _ _ _ _ _ _ _ ?_ ?_ ?_ ?_ ?_ ?_ ?_ ?_)
  · exact fun x => headM_m 7 lt7 (wW i T0 T1) x0 x1 pm inb_S8x1024x128_S1x1024x128_7_0_0 x
  · exact fun x => headM_m 6 lt6 (wW i T0 T1) x0 x1 pm inb_S8x1024x128_S1x1024x128_6_0_0 x
  · exact fun x => headM_m 5 lt5 (wW i T0 T1) x0 x1 pm inb_S8x1024x128_S1x1024x128_5_0_0 x
  · exact fun x => headM_m 4 lt4 (wW i T0 T1) x0 x1 pm inb_S8x1024x128_S1x1024x128_4_0_0 x
  · exact fun x => headM_m 3 lt3 (wW i T0 T1) x0 x1 pm inb_S8x1024x128_S1x1024x128_3_0_0 x
  · exact fun x => headM_m 2 lt2 (wW i T0 T1) x0 x1 pm inb_S8x1024x128_S1x1024x128_2_0_0 x
  · exact fun x => headM_m 1 lt1 (wW i T0 T1) x0 x1 pm inb_S8x1024x128_S1x1024x128_1_0_0 x
  · exact fun x => headM_m 0 lt0 (wW i T0 T1) x0 x1 pm inb_S8x1024x128_S1x1024x128_0_0_0 x

set_option maxHeartbeats 400000 in
/-- The accumulators that a masked block leaves. -/
theorem E_a (hc0 hc1 hc2 h4) :
    (kernelRun0_E c i arg3 harg3 arg4 harg4 arg5 harg5 arg6 harg6 T0 T1 x0 x1 x2 (toM pm) (toA pa) hc0 hc1 hc2 h4).2.1 = toA (stepA (sM (wW i T0 T1) x0 x1) pm pa x2) := by
  unfold kernelRun0_E; dsimp only
  sl_unfold_run_names
  simp only [↓cat4_eq, View.readAt_eq_ld, View.read_rep, View.read_whole, k0_pay4, k0_pay5]
  refine scr8_1 (toA (stepA (sM (wW i T0 T1) x0 x1) pm pa x2)) _ (canon8 (toA (stepA (sM (wW i T0 T1) x0 x1) pm pa x2)) _ _ _ _ _ _ _ _ _ _ _ _ _ _ _ _ _ ?_ ?_ ?_ ?_ ?_ ?_ ?_ ?_)
  · exact fun x => headM_a 7 lt7 (wW i T0 T1) x0 x1 x2 pm pa inb_S8x1024x128_S1x1024x128_7_0_0 x
  · exact fun x => headM_a 6 lt6 (wW i T0 T1) x0 x1 x2 pm pa inb_S8x1024x128_S1x1024x128_6_0_0 x
  · exact fun x => headM_a 5 lt5 (wW i T0 T1) x0 x1 x2 pm pa inb_S8x1024x128_S1x1024x128_5_0_0 x
  · exact fun x => headM_a 4 lt4 (wW i T0 T1) x0 x1 x2 pm pa inb_S8x1024x128_S1x1024x128_4_0_0 x
  · exact fun x => headM_a 3 lt3 (wW i T0 T1) x0 x1 x2 pm pa inb_S8x1024x128_S1x1024x128_3_0_0 x
  · exact fun x => headM_a 2 lt2 (wW i T0 T1) x0 x1 x2 pm pa inb_S8x1024x128_S1x1024x128_2_0_0 x
  · exact fun x => headM_a 1 lt1 (wW i T0 T1) x0 x1 x2 pm pa inb_S8x1024x128_S1x1024x128_1_0_0 x
  · exact fun x => headM_a 0 lt0 (wW i T0 T1) x0 x1 x2 pm pa inb_S8x1024x128_S1x1024x128_0_0_0 x

end Cert.LatentIdeal.Hand

end
-- ==== Proof.LatentPathO.lean ====
module

public import proofs.«01_k».proof.Proof.LatentPaths

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

/-- The pieces of the result that the accumulators `X` give. -/
def oPieces (X : S8x1024x128.Idx → Elt Ideal .f32) : List (View.Piece (Elt Ideal) S1024x512 .bf16) :=
  [⟨Rect.unit (s := S1024x512) ![0, 384] ![1024, 128] inb_S1024x512_S1024x128_0_384, k0_pay9 (sH X 6 lt6) (sH X 7 lt7)⟩,
   ⟨Rect.unit (s := S1024x512) ![0, 256] ![1024, 128] inb_S1024x512_S1024x128_0_256, k0_pay9 (sH X 4 lt4) (sH X 5 lt5)⟩,
   ⟨Rect.unit (s := S1024x512) ![0, 128] ![1024, 128] inb_S1024x512_S1024x128_0_128, k0_pay9 (sH X 2 lt2) (sH X 3 lt3)⟩,
   ⟨Rect.unit (s := S1024x512) ![0, 0] ![1024, 128] inb_S1024x512_S1024x128_0_0, k0_pay9 (sH X 0 lt0) (sH X 1 lt1)⟩]

variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)

/-- What a row's last block stores in the result: each pair of heads, from the accumulators it leaves. -/
theorem B_o (xa0 xa1 hc0 hc1 hc2 h4) :
    (kernelRun0_B c i arg3 harg3 arg4 harg4 arg5 harg5 arg6 harg6 T0 T1 x0 x1 x2 xa0 xa1 hc0 hc1 hc2 h4).1
      = oPieces (kernelRun0_B c i arg3 harg3 arg4 harg4 arg5 harg5 arg6 harg6 T0 T1 x0 x1 x2 xa0 xa1 hc0 hc1 hc2 h4).2.2.1 := by
  unfold kernelRun0_B; dsimp only
  unfold kernelRun0_B.sl.HO3_4 kernelRun0_B.sl.v75 kernelRun0_B.sl.v77 kernelRun0_B.sl.v kernelRun0_B.sl.v60 kernelRun0_B.sl.v56 kernelRun0_B.sl.v39
  simp only [kernelRun0_B.sl.v55, kernelRun0_B.sl.v38, kernelRun0_B.sl.v49, kernelRun0_B.sl.v54, kernelRun0_B.sl.v32, kernelRun0_B.sl.v37, kernelRun0_B.sl.v25_1, kernelRun0_B.sl.v27, kernelRun0_B.sl.v31, kernelRun0_B.sl.v36, kernelRun0_B.sl.v42, kernelRun0_B.sl.v44, kernelRun0_B.sl.v48_1, kernelRun0_B.sl.v53, kernelRun0_B.sl.v30, kernelRun0_B.sl.v35, kernelRun0_B.sl.v43, kernelRun0_B.sl.v47_1, kernelRun0_B.sl.v52, kernelRun0_B.sl.cst, kernelRun0_B.sl.v45_1, kernelRun0_B.sl.v50, kernelRun0_B.sl.v28, kernelRun0_B.sl.v33, kernelRun0_B.sl.v41, kernelRun0_B.sl.v24_1, kernelRun0_B.sl.v26]
  generalize kernelRun0_B.sl.HS1_8 c i arg3 arg4 arg5 T0 T1 x0 x1 x2 xa0 xa1 = L
  rfl

end Cert.LatentIdeal.Hand

end
-- ==== Proof.LatentPathB.lean ====
module

public import proofs.«01_k».proof.Proof.LatentPaths

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)
  (pm : Fin 8 → Fin 1024 → EReal) (pa : Fin 8 → Fin 1024 → Fin 128 → EReal)

set_option maxHeartbeats 400000 in
/-- The maxima that a row's last block leaves. -/
theorem B_m (hc0 hc1 hc2 h4) :
    (kernelRun0_B c i arg3 harg3 arg4 harg4 arg5 harg5 arg6 harg6 T0 T1 x0 x1 x2 (toM pm) (toA pa) hc0 hc1 hc2 h4).2.1 = toM (stepM (sM (wW i T0 T1) x0 x1) pm) := by
  unfold kernelRun0_B; dsimp only
  sl_unfold_run_names
  simp only [↓cat4_eq, View.readAt_eq_ld, View.read_rep, View.read_whole, k0_pay4, k0_pay5]
  refine scr8_0 (toM (stepM (sM (wW i T0 T1) x0 x1) pm)) _ (canon8 (toM (stepM (sM (wW i T0 T1) x0 x1) pm)) _ _ _ _ _ _ _ _ _ _ _ _ _ _ _ _ _ ?_ ?_ ?_ ?_ ?_ ?_ ?_ ?_)
  · exact fun x => headM_m 7 lt7 (wW i T0 T1) x0 x1 pm inb_S8x1024x128_S1x1024x128_7_0_0 x
  · exact fun x => headM_m 6 lt6 (wW i T0 T1) x0 x1 pm inb_S8x1024x128_S1x1024x128_6_0_0 x
  · exact fun x => headM_m 5 lt5 (wW i T0 T1) x0 x1 pm inb_S8x1024x128_S1x1024x128_5_0_0 x
  · exact fun x => headM_m 4 lt4 (wW i T0 T1) x0 x1 pm inb_S8x1024x128_S1x1024x128_4_0_0 x
  · exact fun x => headM_m 3 lt3 (wW i T0 T1) x0 x1 pm inb_S8x1024x128_S1x1024x128_3_0_0 x
  · exact fun x => headM_m 2 lt2 (wW i T0 T1) x0 x1 pm inb_S8x1024x128_S1x1024x128_2_0_0 x
  · exact fun x => headM_m 1 lt1 (wW i T0 T1) x0 x1 pm inb_S8x1024x128_S1x1024x128_1_0_0 x
  · exact fun x => headM_m 0 lt0 (wW i T0 T1) x0 x1 pm inb_S8x1024x128_S1x1024x128_0_0_0 x

set_option maxHeartbeats 400000 in
/-- The accumulators that a row's last block leaves. -/
theorem B_a (hc0 hc1 hc2 h4) :
    (kernelRun0_B c i arg3 harg3 arg4 harg4 arg5 harg5 arg6 harg6 T0 T1 x0 x1 x2 (toM pm) (toA pa) hc0 hc1 hc2 h4).2.2.1 = toA (stepA (sM (wW i T0 T1) x0 x1) pm pa x2) := by
  unfold kernelRun0_B; dsimp only
  sl_unfold_run_names
  simp only [↓cat4_eq, View.readAt_eq_ld, View.read_rep, View.read_whole, k0_pay4, k0_pay5]
  refine scr8_1 (toA (stepA (sM (wW i T0 T1) x0 x1) pm pa x2)) _ (canon8 (toA (stepA (sM (wW i T0 T1) x0 x1) pm pa x2)) _ _ _ _ _ _ _ _ _ _ _ _ _ _ _ _ _ ?_ ?_ ?_ ?_ ?_ ?_ ?_ ?_)
  · exact fun x => headM_a 7 lt7 (wW i T0 T1) x0 x1 x2 pm pa inb_S8x1024x128_S1x1024x128_7_0_0 x
  · exact fun x => headM_a 6 lt6 (wW i T0 T1) x0 x1 x2 pm pa inb_S8x1024x128_S1x1024x128_6_0_0 x
  · exact fun x => headM_a 5 lt5 (wW i T0 T1) x0 x1 x2 pm pa inb_S8x1024x128_S1x1024x128_5_0_0 x
  · exact fun x => headM_a 4 lt4 (wW i T0 T1) x0 x1 x2 pm pa inb_S8x1024x128_S1x1024x128_4_0_0 x
  · exact fun x => headM_a 3 lt3 (wW i T0 T1) x0 x1 x2 pm pa inb_S8x1024x128_S1x1024x128_3_0_0 x
  · exact fun x => headM_a 2 lt2 (wW i T0 T1) x0 x1 x2 pm pa inb_S8x1024x128_S1x1024x128_2_0_0 x
  · exact fun x => headM_a 1 lt1 (wW i T0 T1) x0 x1 x2 pm pa inb_S8x1024x128_S1x1024x128_1_0_0 x
  · exact fun x => headM_a 0 lt0 (wW i T0 T1) x0 x1 x2 pm pa inb_S8x1024x128_S1x1024x128_0_0_0 x

end Cert.LatentIdeal.Hand

end
-- ==== Proof.LatentOut.lean ====
module

public import proofs.«01_k».proof.Proof.LatentPathO
public import proofs.«01_k».proof.Proof.LatentPathB

@[expose] public section

set_option maxRecDepth 16384

noncomputable section

namespace Cert.LatentIdeal.Hand

open Cert.LatentIdeal Cert.LatentIdeal.Gen
open Idealize.ShloMosaic
open Idealize.ShloMosaic.TcCoe Idealize.ShloMosaic.Tactic
open Idealize.SL Idealize.SL.Sem

/-- One pair of heads of the result: lanes below 64 from the first head, the others from the second, each divided by the lane of
    its accumulator that added up the weights. -/
theorem pay9_apply (A B : Vec Ideal S1x1024x128 .f32) (r : Fin 1024) (l : Fin 128) :
    k0_pay9 A B (ix2 r l) = if l.val < 64 then A (ix3 0 r l) * Ideal.div 1 (A (ix3 0 r 64)) else B (ix3 0 r l) * Ideal.div 1 (B (ix3 0 r 0)) := by
  have one : Ideal.ofBits FTy.f32 0x3F800000#32 = (1 : EReal) := by
    show Ideal.ieee 8 23 0x3F800000#32 = _
    simp [Ideal.ieee, -EReal.coe_mul]
    norm_num
  pointwise [k0_pay9, k0_pay3]
  have hs : ∀ l : Fin 128, IntOp.cmpi .slt (BitVec.ofNat 32 l.val) 64#32 = if l.val < 64 then 1#1 else 0#1 := by decide +kernel
  rw [hs]
  split <;> rfl

/-- The result of a query block, from its accumulators. -/
def oF (pa : Fin 8 → Fin 1024 → Fin 128 → EReal) : S1024x512.Idx → EReal := fun y =>
  if (y 1).val % 128 < 64 then
    pa ⟨2 * ((y 1).val / 128), by have : (y 1).val < 512 := (y 1).isLt; omega⟩ (y 0) ⟨(y 1).val % 128, Nat.mod_lt _ (by norm_num)⟩
      * Ideal.div 1 (pa ⟨2 * ((y 1).val / 128), by have : (y 1).val < 512 := (y 1).isLt; omega⟩ (y 0) 64)
  else
    pa ⟨2 * ((y 1).val / 128) + 1, by have : (y 1).val < 512 := (y 1).isLt; omega⟩ (y 0) ⟨(y 1).val % 128, Nat.mod_lt _ (by norm_num)⟩
      * Ideal.div 1 (pa ⟨2 * ((y 1).val / 128) + 1, by have : (y 1).val < 512 := (y 1).isLt; omega⟩ (y 0) 0)

/-- One piece of the result. -/
theorem o_piece (pa) (j : Nat) (hj : j < 4) (h0 : 2 * j < 8) (h1 : 2 * j + 1 < 8) (o : Nat) (ho : o = 128 * j) (inb)
    (x : S1024x128.Idx) :
    k0_pay9 (sH (toA pa) (2 * j) h0) (sH (toA pa) (2 * j + 1) h1) x = oF pa ((Rect.unit (s := S1024x512) ![0, o] ![1024, 128] inb).emb x) := by
  obtain ⟨r, l, rfl⟩ : ∃ (r : Fin 1024) (l : Fin 128), x = ix2 r l := ⟨x 0, x 1, by funext a; fin_cases a <;> rfl⟩
  subst ho
  have e0 : ((Rect.unit (s := S1024x512) ![0, 128 * j] ![1024, 128] inb).emb (ix2 r l)) 0 = r := Fin.ext (by show 0 + 1 * r.val = r.val; omega)
  have e1 : (((Rect.unit (s := S1024x512) ![0, 128 * j] ![1024, 128] inb).emb (ix2 r l)) 1).val = 128 * j + l.val := by
    show 128 * j + 1 * l.val = _
    omega
  rw [pay9_apply, sH_toA, sH_toA, sH_toA, sH_toA]
  unfold oF
  have hl := l.isLt
  have hm : (128 * j + l.val) % 128 = l.val := by omega
  have hd : (128 * j + l.val) / 128 = j := by omega
  simp only [e0, e1, hm, hd]

/-- The pieces of the result are the result. -/
theorem oPieces_canon (pa) (y : S1024x512.Idx) : View.canon (oPieces (toA pa)) y = oF pa y := by
  have hy0 : (y 0).val < 1024 := (y 0).isLt
  have hy1 : (y 1).val < 512 := (y 1).isLt
  have key : ∀ (o : Nat) (inb), o ≤ (y 1).val → (y 1).val < o + 128 → y ∈ (Rect.unit (s := S1024x512) ![0, o] ![1024, 128] inb).set := by
    intro o inb h1 h2
    rw [Rect.mem_set_unit]
    intro a
    fin_cases a
    · exact ⟨Nat.zero_le _, by simpa using hy0⟩
    · exact ⟨h1, h2⟩
  have hc : ∃ p ∈ oPieces (toA pa), y ∈ p.1.set := by
    unfold oPieces
    rcases (show 384 ≤ (y 1).val ∨ (256 ≤ (y 1).val ∧ (y 1).val < 384) ∨ (128 ≤ (y 1).val ∧ (y 1).val < 256) ∨ (y 1).val < 128 by omega) with h | h | h | h
    · exact ⟨_, .head _, key 384 inb_S1024x512_S1024x128_0_384 h (by omega)⟩
    · exact ⟨_, .tail _ (.head _), key 256 inb_S1024x512_S1024x128_0_256 h.1 (by omega)⟩
    · exact ⟨_, .tail _ (.tail _ (.head _)), key 128 inb_S1024x512_S1024x128_0_128 h.1 (by omega)⟩
    · exact ⟨_, .tail _ (.tail _ (.tail _ (.head _))), key 0 inb_S1024x512_S1024x128_0_0 (Nat.zero_le _) (by omega)⟩
  have hp : View.PiecesOf (Val := Elt Ideal) (oF pa) (oPieces (toA pa)) :=
    ⟨fun x => o_piece pa 3 (by norm_num) lt6 lt7 384 rfl inb_S1024x512_S1024x128_0_384 x,
      fun x => o_piece pa 2 (by norm_num) lt4 lt5 256 rfl inb_S1024x512_S1024x128_0_256 x,
      fun x => o_piece pa 1 (by norm_num) lt2 lt3 128 rfl inb_S1024x512_S1024x128_0_128 x,
      fun x => o_piece pa 0 (by norm_num) lt0 lt1 0 rfl inb_S1024x512_S1024x128_0_0 x, trivial⟩
  have := View.canon_append_of_piecesOf (Val := Elt Ideal) (oF pa) [] (oPieces (toA pa)) hp y hc
  rwa [List.append_nil] at this

variable (c : Dev nD) (i : grid0.Coords) (arg3 : Memref sig .tc .vmem S1024x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S1024x512 .bf16) (harg6 : arg6.IsWhole) (T0 T1 : S272.Idx → Elt Ideal .i32)
  (x0 : S1024x1024.Idx → Elt Ideal .bf16) (x1 x2 : S512x1024.Idx → Elt Ideal .bf16)
  (pm : Fin 8 → Fin 1024 → EReal) (pa : Fin 8 → Fin 1024 → Fin 128 → EReal)

/-- What a row's last block stores. -/
theorem B_out (hc0 hc1 hc2 h4) :
    out0_B_3 c i arg3 harg3 arg4 harg4 arg5 harg5 arg6 harg6 T0 T1 x0 x1 x2 (toM pm) (toA pa) hc0 hc1 hc2 h4
      = oF (stepA (sM (wW i T0 T1) x0 x1) pm pa x2) := by
  unfold out0_B_3
  rw [B_o, B_a]
  exact funext fun y => (View.read_writes_junk_apply_eq_canon (Val := Elt Ideal) VO0_3 y _).trans (oPieces_canon _ y)

end Cert.LatentIdeal.Hand

end
-- ==== Proof.LatentState.lean ====
module

public import proofs.«01_k».proof.Proof.LatentStep
public import proofs.«01_k».proof.Proof.LatentPathA
public import proofs.«01_k».proof.Proof.LatentPathC
public import proofs.«01_k».proof.Proof.LatentPathE
public import proofs.«01_k».proof.Proof.LatentOut

@[expose] public section

set_option maxRecDepth 16384

noncomputable section

namespace Cert.LatentIdeal.Hand

open Cert.LatentIdeal Cert.LatentIdeal.Gen
open Idealize.ShloMosaic
open Idealize.ShloMosaic.TcCoe
open Cert.RealSums Cert.LatentSum

variable (m : (ℓ : Loc nD τ sig) → Buf (Elt Ideal) ℓ) (ρ : Dev nD → PrngReg)

/-- What the two scratches hold after `n` keys of query block `b`. -/
def Holds (c : Dev nD) (b n : ℕ) (p : Buf (Elt Ideal) ((c : Thread nD τ).loc cc0_scratch0) × Buf (Elt Ideal) ((c : Thread nD τ).loc cc0_scratch1)) : Prop :=
  p.1 = toM (MM (qA m c) (kA m c) b n) ∧ p.2 = toA (AA (qA m c) (kA m c) (vA m c) b n)

/-- The maxima after a step on the diagonal. -/
theorem nextM_M (c : Dev nD) (t : Fin (cfgA 0).N) (q1 : ¬P0_1 0 t) :
    stepM (sM (wW (crd 0 t) (pinT_0 0) (pinT_1 0)) (iblk 0 m ρ c (0 : Fin 4) t) (iblk 0 m ρ c (1 : Fin 4) t)) (MM (qA m c) (kA m c) (bN t.val) (512 * kN t.val))
      = MM (qA m c) (kA m c) (bN t.val) (512 * kN t.val + 512) :=
  stepM_MM _ _ _ _ _ fun h r j => sM_SS m ρ c t q1 h r j

/-- The maxima after a step off the diagonal. -/
theorem nextM_U (c : Dev nD) (t : Fin (cfgA 0).N) (q1 : P0_1 0 t) :
    stepM (sU (iblk 0 m ρ c (0 : Fin 4) t) (iblk 0 m ρ c (1 : Fin 4) t)) (MM (qA m c) (kA m c) (bN t.val) (512 * kN t.val))
      = MM (qA m c) (kA m c) (bN t.val) (512 * kN t.val + 512) :=
  stepM_MM _ _ _ _ _ fun h r j => sU_SS m ρ c t q1 h r j

variable (hq : ∀ c x, Fin' (qA m c x)) (hk : ∀ c x, Fin' (kA m c x))

include hq hk

/-- The accumulators after a step on the diagonal. -/
theorem nextA_M (c : Dev nD) (t : Fin (cfgA 0).N) (q1 : ¬P0_1 0 t) :
    stepA (sM (wW (crd 0 t) (pinT_0 0) (pinT_1 0)) (iblk 0 m ρ c (0 : Fin 4) t) (iblk 0 m ρ c (1 : Fin 4) t)) (MM (qA m c) (kA m c) (bN t.val) (512 * kN t.val))
        (AA (qA m c) (kA m c) (vA m c) (bN t.val) (512 * kN t.val)) (iblk 0 m ρ c (2 : Fin 4) t)
      = AA (qA m c) (kA m c) (vA m c) (bN t.val) (512 * kN t.val + 512) :=
  stepA_AA (hq c) (hk c) _ _ _ _ (fun h r j => sM_SS m ρ c t q1 h r j) fun h l j => v_VV m ρ c t h l j

/-- The accumulators after a step off the diagonal. -/
theorem nextA_U (c : Dev nD) (t : Fin (cfgA 0).N) (q1 : P0_1 0 t) :
    stepA (sU (iblk 0 m ρ c (0 : Fin 4) t) (iblk 0 m ρ c (1 : Fin 4) t)) (MM (qA m c) (kA m c) (bN t.val) (512 * kN t.val))
        (AA (qA m c) (kA m c) (vA m c) (bN t.val) (512 * kN t.val)) (iblk 0 m ρ c (2 : Fin 4) t)
      = AA (qA m c) (kA m c) (vA m c) (bN t.val) (512 * kN t.val + 512) :=
  stepA_AA (hq c) (hk c) _ _ _ _ (fun h r j => sU_SS m ρ c t q1 h r j) fun h l j => v_VV m ρ c t h l j

/-- One step moves the scratches on by one key block. -/
theorem step_holds (c : Dev nD) (t : Fin (cfgA 0).N) (o pm pa)
    (hp : ¬P0_0 0 t → Holds m c (bN t.val) (512 * kN t.val) (pm, pa)) :
    Holds m c (bN t.val) (512 * kN t.val + 512) (step0 0 m ρ c t (o, pm, pa)).2 := by
  by_cases q0 : P0_0 0 t
  · have h0 : 512 * kN t.val = 0 := by rw [(pf t).2.2.1 q0]
    have z1 : MM (qA m c) (kA m c) (bN t.val) (512 * kN t.val) = fun _ _ => ⊥ := by rw [h0, MM_zero]
    have z2 : AA (qA m c) (kA m c) (vA m c) (bN t.val) (512 * kN t.val) = fun _ _ _ => 0 := by rw [h0, AA_zero]
    by_cases q1 : P0_1 0 t
    · have eM := nextM_U m ρ c t q1
      have eA := nextA_U m ρ hq hk c t q1
      rw [z1] at eM eA
      rw [z2] at eA
      rw [step0_C 0 m ρ c t _ q0 q1]
      unfold Holds
      constructor
      · dsimp only
        rw [C_m, eM]
      · dsimp only
        rw [C_a, eA]
    · have eM := nextM_M m ρ c t q1
      have eA := nextA_M m ρ hq hk c t q1
      rw [z1] at eM eA
      rw [z2] at eA
      rw [step0_A 0 m ρ c t _ q0 q1]
      unfold Holds
      constructor
      · dsimp only
        rw [A_m, eM]
      · dsimp only
        rw [A_a, eA]
  · obtain ⟨e1, e2⟩ := hp q0
    dsimp only at e1 e2
    subst e1 e2
    by_cases q1 : P0_1 0 t
    · rw [step0_D 0 m ρ c t _ q0 q1]
      unfold Holds
      constructor
      · dsimp only
        rw [D_m, nextM_U m ρ c t q1]
      · dsimp only
        rw [D_a, nextA_U m ρ hq hk c t q1]
    · by_cases q2 : P0_2 0 t
      · rw [step0_B 0 m ρ c t _ q0 q1 q2]
        unfold Holds
        constructor
        · dsimp only
          rw [B_m, nextM_M m ρ c t q1]
        · dsimp only
          rw [B_a, nextA_M m ρ hq hk c t q1]
      · rw [step0_E 0 m ρ c t _ q0 q1 q2]
        unfold Holds
        constructor
        · dsimp only
          rw [E_m, nextM_M m ρ c t q1]
        · dsimp only
          rw [E_a, nextA_M m ρ hq hk c t q1]

/-- What the scratches hold after every step. -/
theorem traj_holds (c : Dev nD) : ∀ (n : ℕ) (h : n < (cfgA 0).N), Holds m c (bN n) (512 * kN n + 512) (traj0 0 m ρ c n h).2
  | 0, h => by
    refine step_holds m ρ hq hk c ⟨0, h⟩ default default default fun q0 => ?_
    exact absurd ((pf ⟨0, h⟩).2.2.2.1 q0).1 (lt_irrefl 0)
  | n + 1, h => by
    have ih := traj_holds c n (Nat.lt_of_succ_lt h)
    refine step_holds m ρ hq hk c ⟨n + 1, h⟩ (traj0 0 m ρ c n (Nat.lt_of_succ_lt h)).1 (traj0 0 m ρ c n (Nat.lt_of_succ_lt h)).2.1
      (traj0 0 m ρ c n (Nat.lt_of_succ_lt h)).2.2 fun q0 => ?_
    obtain ⟨_, e1, e2⟩ := (pf ⟨n + 1, h⟩).2.2.2.1 q0
    have e1 : bN n = bN (n + 1) := e1
    have e2 : kN n + 1 = kN (n + 1) := e2
    show Holds m c (bN (n + 1)) (512 * kN (n + 1)) _
    rw [← e1, ← e2, Nat.mul_add]
    exact ih

/-- The result block the last step of a row of blocks writes, from what the scratches held. -/
theorem step_out (c : Dev nD) (t : Fin (cfgA 0).N) (q0 : ¬P0_0 0 t) (q1 : ¬P0_1 0 t) (q2 : P0_2 0 t) (o pm pa)
    (hp : Holds m c (bN t.val) (512 * kN t.val) (pm, pa)) :
    (step0 0 m ρ c t (o, pm, pa)).1 = oF (AA (qA m c) (kA m c) (vA m c) (bN t.val) (512 * kN t.val + 512)) := by
  obtain ⟨e1, e2⟩ := hp
  dsimp only at e1 e2
  subst e1 e2
  rw [step0_B 0 m ρ c t _ q0 q1 q2]
  dsimp only
  rw [B_out, nextA_M m ρ hq hk c t q1]

/-- The result block a row's last step writes. -/
theorem out_last (c : Dev nD) (t : Fin (cfgA 0).N) (q0 : ¬P0_0 0 t) (q1 : ¬P0_1 0 t) (q2 : P0_2 0 t) :
    (traj0 0 m ρ c t.val t.isLt).1 = oF (AA (qA m c) (kA m c) (vA m c) (bN t.val) (1024 * bN t.val + 1024)) := by
  have hk2 := (pf t).2.2.2.2.2.2 q2
  obtain ⟨hpos, e1, e2⟩ := (pf t).2.2.2.1 q0
  have hN : t.val - 1 < (cfgA 0).N := lt_of_le_of_lt (Nat.sub_le _ _) t.isLt
  have ih := traj_holds m ρ hq hk c (t.val - 1) hN
  have ek : 512 * kN (t.val - 1) + 512 = 512 * kN t.val := by omega
  have en : 512 * kN t.val + 512 = 1024 * bN t.val + 1024 := by omega
  rw [e1, ek] at ih
  have hs := step_out m ρ hq hk c t q0 q1 q2 (traj0 0 m ρ c (t.val - 1) hN).1 (traj0 0 m ρ c (t.val - 1) hN).2.1
    (traj0 0 m ρ c (t.val - 1) hN).2.2 ih
  rw [en] at hs
  rw [traj0_eq]
  have hpv : prev0 0 m ρ c t = traj0 0 m ρ c (t.val - 1) hN := by
    unfold prev0
    rw [dif_neg (Nat.pos_iff_ne_zero.mp hpos)]
  rw [hpv]
  exact hs

end Cert.LatentIdeal.Hand

end
-- ==== Proof.LatentFinal.lean ====
module

public import proofs.«01_k».proof.Proof.LatentState

@[expose] public section

set_option maxRecDepth 16384

noncomputable section

namespace Cert.LatentIdeal.Hand

open Cert.LatentIdeal Cert.LatentIdeal.Gen
open Idealize.ShloMosaic
open Idealize.ShloMosaic.TcCoe
open Cert.RealSums Cert.LatentSum

/-- Lane `l` of head `h` of row `n`'s result: the weighted sum of the values over the sum of the weights. -/
def Qt (q k v : S16384x1024.Idx → EReal) (n : Fin 16384) (h : Fin 8) (l : Fin 128) : EReal :=
  aR (SS q k n h) (VV v h l) 16384 * Ideal.div 1 (aR (SS q k n h) (fun _ => 1) 16384)

/-- The result array. -/
def OUTL (q k v : S16384x1024.Idx → EReal) : S16384x512.Idx → EReal := fun z =>
  Qt q k v (z 0) ⟨(z 1).val / 64, by have : (z 1).val < 512 := (z 1).isLt; omega⟩
    ⟨64 * ((z 1).val / 64 % 2) + (z 1).val % 64, by omega⟩

section Block

variable {q k v : S16384x1024.Idx → EReal} (hq : ∀ x, Fin' (q x)) (hk : ∀ x, Fin' (k x))
  (h1 : ∀ (n : Fin 16384) (l : Fin 1024), l.val % 256 = 64 ∨ l.val % 256 = 128 → v (ix2 n l) = 1)

include hq hk

/-- The accumulator of a row at the end of its row of blocks is the sum over all keys. -/
theorem AA_end (b : ℕ) (hb : b < 16) (h : Fin 8) (r : Fin 1024) (l : Fin 128) :
    AA q k v b (1024 * b + 1024) h r l = aR (SS q k (row b r) h) (VV v h l) 16384 := by
  have er : (row b r).val = 1024 * b + r.val := Nat.mod_eq_of_lt (by omega)
  exact (aR_tail (SS q k (row b r) h) (VV v h l) (by omega) (fun j hj => SS_tail q k _ h (by omega))
    (mR_real _ (SS_zero hq hk _ h) (SS_rb hq hk _ h) _ (by omega))).symm

include h1

/-- The lane of ones accumulates the sum of the weights. -/
theorem AA_one (b : ℕ) (hb : b < 16) (h : Fin 8) (r : Fin 1024) (l : Fin 128) (hl : (128 * h.val + l.val) % 256 = 64 ∨ (128 * h.val + l.val) % 256 = 128) :
    AA q k v b (1024 * b + 1024) h r l = aR (SS q k (row b r) h) (fun _ => 1) 16384 := by
  rw [AA_end hq hk b hb]
  refine Finset.sum_congr rfl fun j hj => ?_
  have e : VV v h l j = 1 := by
    unfold VV
    rw [dif_pos (Finset.mem_range.mp hj)]
    exact h1 _ _ hl
  rw [e]

/-- A block of the result. -/
theorem oF_end (b : ℕ) (hb : b < 16) (r : Fin 1024) (d : Fin 512) :
    oF (AA q k v b (1024 * b + 1024)) (ix2 r d) = OUTL q k v (ix2 (row b r) d) := by
  unfold oF OUTL Qt
  have d0 : ((ix2 r d : S1024x512.Idx) 1).val = d.val := rfl
  have d1 : ((ix2 (row b r) d : S16384x512.Idx) 1).val = d.val := rfl
  have r0 : (ix2 r d : S1024x512.Idx) 0 = r := rfl
  have r1 : (ix2 (row b r) d : S16384x512.Idx) 0 = row b r := rfl
  simp only [d0, d1, r0, r1]
  by_cases p : d.val % 128 < 64
  · rw [if_pos p, AA_end hq hk b hb, AA_one hq hk h1 b hb _ _ _ (by left; show (128 * (2 * (d.val / 128)) + 64) % 256 = 64; omega)]
    have e1 : (⟨2 * (d.val / 128), by omega⟩ : Fin 8) = ⟨d.val / 64, by omega⟩ := Fin.ext (by show 2 * (d.val / 128) = d.val / 64; omega)
    have e2 : (⟨d.val % 128, by omega⟩ : Fin 128) = ⟨64 * (d.val / 64 % 2) + d.val % 64, by omega⟩ :=
      Fin.ext (by show d.val % 128 = 64 * (d.val / 64 % 2) + d.val % 64; omega)
    rw [e1, e2]
  · rw [if_neg p, AA_end hq hk b hb, AA_one hq hk h1 b hb _ _ _ (by right; show (128 * (2 * (d.val / 128) + 1) + 0) % 256 = 128; omega)]
    have e1 : (⟨2 * (d.val / 128) + 1, by omega⟩ : Fin 8) = ⟨d.val / 64, by omega⟩ := Fin.ext (by show 2 * (d.val / 128) + 1 = d.val / 64; omega)
    have e2 : (⟨d.val % 128, by omega⟩ : Fin 128) = ⟨64 * (d.val / 64 % 2) + d.val % 64, by omega⟩ :=
      Fin.ext (by show d.val % 128 = 64 * (d.val / 64 % 2) + d.val % 64; omega)
    rw [e1, e2]

end Block

/-- A block is written back only by the last step of its row of blocks. -/
theorem flush_last (t : Fin (cfgA 0).N) (hf : ((cfgA 0).win (3 : Fin 4)).flush t = true) : ¬P0_0 0 t ∧ ¬P0_1 0 t ∧ P0_2 0 t := by
  by_cases q0 : P0_0 0 t
  · by_cases q1 : P0_1 0 t
    · exact absurd (hf.symm.trans (sched0_C 0 t q0 q1).2.1) (by decide)
    · exact absurd (hf.symm.trans (sched0_A 0 t q0 q1).2.1) (by decide)
  · by_cases q1 : P0_1 0 t
    · exact absurd (hf.symm.trans (sched0_D 0 t q0 q1).2.1) (by decide)
    · by_cases q2 : P0_2 0 t
      · exact ⟨q0, q1, q2⟩
      · exact absurd (hf.symm.trans (sched0_E 0 t q0 q1 q2).2.1) (by decide)

variable (m : (ℓ : Loc nD τ sig) → Buf (Elt Ideal) ℓ) (ρ : Dev nD → PrngReg)
variable (hq : ∀ c x, Fin' (qA m c x)) (hk : ∀ c x, Fin' (kA m c x))
  (h1 : ∀ c (n : Fin 16384) (l : Fin 1024), l.val % 256 = 64 ∨ l.val % 256 = 128 → vA m c (ix2 n l) = 1)

include hq hk h1

/-- The array after the last step. -/
theorem final (c : Dev nD) : (dats 0 m ρ 0 c).arrAt 3 (cfgA 0).N = OUTL (qA m c) (kA m c) (vA m c) := by
  refine (dats 0 m ρ 0 c).arrAt_eq_of_cover 3 (OUTL (qA m c) (kA m c) (vA m c)) (fun t hf => funext fun (y : S1024x512.Idx) => ?_) fun (z : S16384x512.Idx) => ?_
  · obtain ⟨q0, q1, q2⟩ := flush_last t hf
    obtain ⟨r, d, rfl⟩ : ∃ (r : Fin 1024) (d : Fin 512), y = ix2 r d := ⟨y 0, y 1, by funext a; fin_cases a <;> rfl⟩
    have e1 := congrFun (out_last m ρ hq hk c t q0 q1 q2) (ix2 r d)
    have e2 := oF_end (hq c) (hk c) (h1 c) (bN t.val) (b_lt t) r d
    have e3 : (((cfgA 0).win 3).blk t).view.emb (ix2 r d) = ix2 (row (bN t.val) r) d :=
      (embO t r d).trans (congrArg (fun n => ix2 n d) (Fin.ext (Nat.mod_eq_of_lt (by have := b_lt t; omega)).symm))
    exact (e1.trans e2).trans (congrArg (OUTL (qA m c) (kA m c) (vA m c)) e3.symm)
  · obtain ⟨n, d, rfl⟩ : ∃ (n : Fin 16384) (d : Fin 512), z = ix2 n d := ⟨z 0, z 1, by funext a; fin_cases a <;> rfl⟩
    obtain ⟨t, hb, q0, q1, q2⟩ := last_pt ⟨n.val / 1024, by omega⟩
    refine ⟨t, (sched0_B 0 t q0 q1 q2).2.1, ?_⟩
    have e := embO t ⟨n.val % 1024, Nat.mod_lt _ (by norm_num)⟩ d
    have hb' : bN t.val = n.val / 1024 := hb
    have e' : (ix2 (⟨1024 * bN t.val + n.val % 1024, by have := b_lt t; omega⟩ : Fin 16384) d) = ix2 n d :=
      congrArg (fun k => ix2 k d) (Fin.ext (by show 1024 * bN t.val + n.val % 1024 = n.val; omega))
    exact (e.trans e') ▸ View.emb_mem_set _ _

end Cert.LatentIdeal.Hand

end
-- ==== Proof.LatentRef.lean ====
module

public import proofs.«01_k».proof.Proof.Gen.LatentRefIdeal.Read
public import proofs.«01_k».proof.Proof.LatentSum
public import Idealize.ShloMosaic.Lib.Pointwise

@[expose] public section

set_option maxRecDepth 16384

noncomputable section

namespace Cert.LatentRefIdeal.Hand

open Cert.LatentRefIdeal Cert.LatentRefIdeal.Gen Cert.LatentRefIdeal.Read
open Idealize.ShloMosaic Cert.RealSums Cert.LatentSum

variable (q k v : S16384x1024.Idx → Elt Ideal .bf16)

/-- The product of a query row and a key row. -/
theorem v14_at (h : Fin 8) (n j : Fin 16384) : val_main_v14 (F := Ideal) q k (ix3 h n j)
    = ∑ d : Fin 128, q (ix2 n ⟨128 * h.val + d.val, by omega⟩) * k (ix2 j ⟨128 * h.val + d.val, by omega⟩) := by
  rw [val_main_v14_apply]
  refine Finset.sum_congr rfl fun d _ => ?_
  rw [val_main_v1_apply, val_main_v0_apply, val_main_v3_apply, val_main_v2_apply]
  refine congrArg₂ (fun a b : EReal => a * b) (congrArg q (funext fun a => Fin.ext ?_)) (congrArg k (funext fun a => Fin.ext ?_))
  · fin_cases a
    · show ((n.val * 8 + h.val) * 128 + d.val) / 1024 = n.val
      omega
    · show ((n.val * 8 + h.val) * 128 + d.val) % 1024 = 128 * h.val + d.val
      omega
  · fin_cases a
    · show ((j.val * 8 + h.val) * 128 + d.val) / 1024 = j.val
      omega
    · show ((j.val * 8 + h.val) * 128 + d.val) % 1024 = 128 * h.val + d.val
      omega

/-- The factor of the scores. -/
theorem v16_at (i : S8x16384x16384.Idx) : val_main_v16 (F := Ideal) i = ((Real.log 2 : ℝ) : EReal) := by
  have h2 : val_main_cst (F := Ideal) (idx_main_v16 i) = ((2 : ℝ) : EReal) := by
    rw [val_main_cst_apply]
    show Ideal.ieee 8 23 0x40000000#32 = _
    simp [Ideal.ieee, -EReal.coe_mul]
    norm_num
  rw [val_main_v16_apply, val_main_v15_apply, h2, Ideal.hostUnary_log_def, Ideal.log_coe, if_neg (by norm_num)]

/-- The masked score of row `n` and key `j`. -/
theorem v24_at (h : Fin 8) (n j : Fin 16384) : val_main_v24 (F := Ideal) q k (ix3 h n j)
    = (if j.val ≤ n.val then val_main_v14 (F := Ideal) q k (ix3 h n j) else ⊥) * ((Real.log 2 : ℝ) : EReal) := by
  have hc : val_main_call0_v1 (F := Ideal) (ix3 h n j) = BitVec.ofBool (decide (j.val ≤ n.val)) := by
    rw [val_main_call0_v1_apply, val_main_v23_apply, val_main_v21_apply, val_main_v22_apply, val_main_v19_apply, val_main_v20_apply, val_main_v18_apply, val_main_v18_apply]
    show BitVec.ofBool ((BitVec.ofNat 32 j.val).sle (BitVec.ofNat 32 n.val)) = _
    refine congrArg _ ?_
    rw [BitVec.sle]
    refine decide_eq_decide.mpr ?_
    simp only [BitVec.toInt, BitVec.toNat_ofNat]
    omega
  have hb : val_main_call0_v2 (F := Ideal) (ix3 h n j) = (⊥ : EReal) := by
    rw [val_main_call0_v2_apply, val_main_call0_v0_apply, val_main_cst_0_apply]
    show Ideal.ieee 8 23 0xFF800000#32 = _
    simp [Ideal.ieee]
  rw [val_main_v24_apply, hc, hb, val_main_v17_apply, v16_at]
  show (if _ = 1#1 then _ else _) = _
  by_cases p : j.val ≤ n.val
  · rw [decide_eq_true p, if_pos (by decide), if_pos p]
    rfl
  · rw [decide_eq_false p, if_neg (by decide), if_neg p, EReal.bot_mul_coe_of_pos (Real.log_pos (by norm_num))]

end Cert.LatentRefIdeal.Hand

end
-- ==== Proof.LatentSoft.lean ====
module

public import proofs.«01_k».proof.Proof.LatentRef

@[expose] public section

set_option maxRecDepth 16384

noncomputable section

namespace Cert.LatentRefIdeal.Hand

open Cert.LatentRefIdeal Cert.LatentRefIdeal.Gen Cert.LatentRefIdeal.Read
open Idealize.ShloMosaic Cert.RealSums Cert.LatentSum

variable (q k : S16384x1024.Idx → EReal)

/-- The causal scores of row `n` for head `h`: the products with the keys up to the row, and below every number after it. -/
def sc (n : Fin 16384) (h : Fin 8) (j : ℕ) : EReal :=
  if hj : j ≤ n.val then ∑ d : Fin 128, q (ix2 n ⟨128 * h.val + d.val, by omega⟩) * k (ix2 ⟨j, by omega⟩ ⟨128 * h.val + d.val, by omega⟩) else ⊥

/-- The reference's masked score is the causal score times `log 2`. -/
theorem v24_sc (h : Fin 8) (n j : Fin 16384) : val_main_v24 (F := Ideal) q k (ix3 h n j) = sc q k n h j.val * ((Real.log 2 : ℝ) : EReal) := by
  rw [v24_at, v14_at]
  unfold sc
  by_cases p : j.val ≤ n.val
  · rw [if_pos p, dif_pos p]
  · rw [if_neg p, dif_neg p]

/-- The largest over an index below `N` is the largest over the numbers below `N`. -/
theorem sup_fin (g : ℕ → EReal) (N : ℕ) : (Finset.univ.sup fun j : Fin N => g j.val) = (Finset.range N).sup g :=
  le_antisymm (Finset.sup_le fun j _ => Finset.le_sup (f := g) (Finset.mem_range.mpr j.isLt))
    (Finset.sup_le fun j hj => Finset.le_sup (f := fun j : Fin N => g j.val) (b := ⟨j, Finset.mem_range.mp hj⟩) (Finset.mem_univ _))

/-- The reference's row maximum. -/
theorem v25_at (h : Fin 8) (n : Fin 16384) : val_main_v25 (F := Ideal) q k (ix2 h n) = mR (sc q k n h) 16384 * ((Real.log 2 : ℝ) : EReal) := by
  have hb : val_main_cst_1 (F := Ideal) (Shape.Idx.first h_S_) = (⊥ : EReal) := by
    rw [val_main_cst_1_apply]
    show Ideal.ieee 8 23 0xFF800000#32 = _
    simp [Ideal.ieee]
  unfold val_main_v25
  refine (Host.reduce_eq_fold_single (max : EReal → EReal → EReal) (val_main_v24 (F := Ideal) q k) (val_main_cst_1 (F := Ideal))
    reducesTo_S8x16384x16384_S8x16384_d2 (by decide) h_S_ (ix2 h n)).trans ?_
  rw [hb]
  refine Eq.trans ?_ ((sup_fin (fun j => sc q k n h j * ((Real.log 2 : ℝ) : EReal)) 16384).trans (sup_scale _ 16384))
  refine Eq.trans (congrArg (fun f => Finset.fold max (⊥ : EReal) f (Finset.univ : Finset (Fin 16384))) (funext fun j => ?_)) rfl
  refine Eq.trans (congrArg (val_main_v24 (F := Ideal) q k) (?_ : _ = ix3 h n j)) (v24_sc q k h n j)
  exact funext fun a => Fin.ext (by fin_cases a <;> rfl)

/-- The maximum the reference subtracts. -/
theorem v29_at (h : Fin 8) (n j : Fin 16384) : val_main_v29 (F := Ideal) q k (ix3 h n j) = mR (sc q k n h) 16384 * ((Real.log 2 : ℝ) : EReal) := by
  have hb : ∀ i, val_main_v26 (F := Ideal) i = (⊥ : EReal) := fun i => by
    rw [val_main_v26_apply, val_main_cst_2_apply]
    show Ideal.ieee 8 23 0xFF800000#32 = _
    simp [Ideal.ieee]
  have hi : idx_main_v28 (idx_main_v29 (ix3 h n j)) = ix2 h n := funext fun a => Fin.ext (by fin_cases a <;> rfl)
  rw [val_main_v29_apply, val_main_v28_apply, hi, val_main_v27_apply, hb, v25_at]
  exact max_eq_right bot_le

variable {q k}

/-- The first score is a real number. -/
theorem sc_zero (hq : ∀ x, Fin' (q x)) (hk : ∀ x, Fin' (k x)) (n : Fin 16384) (h : Fin 8) : Fin' (sc q k n h 0) := by
  unfold sc
  rw [dif_pos (Nat.zero_le _)]
  exact Fin'.sum fun d => (hq _).mul (hk _)

/-- Every score is a real number or below every number. -/
theorem sc_rb (hq : ∀ x, Fin' (q x)) (hk : ∀ x, Fin' (k x)) (n : Fin 16384) (h : Fin 8) (j : ℕ) : RB (sc q k n h j) := by
  unfold sc
  split
  · exact Or.inr (Fin'.sum fun d => (hq _).mul (hk _))
  · exact Or.inl rfl

/-- The reference's weight of a key. -/
theorem v31_at (hq : ∀ x, Fin' (q x)) (hk : ∀ x, Fin' (k x)) (h : Fin 8) (n j : Fin 16384) :
    val_main_v31 (F := Ideal) q k (ix3 h n j) = wt (sc q k n h j.val) (mR (sc q k n h) 16384) := by
  rw [val_main_v31_apply, val_main_v30_apply, v24_sc, v29_at]
  exact exp_wt (sc_rb hq hk n h j.val) (mR_real _ (sc_zero hq hk n h) (sc_rb hq hk n h) 16384 (by norm_num))

/-- The reference's sum of a row's weights. -/
theorem v34_at (hq : ∀ x, Fin' (q x)) (hk : ∀ x, Fin' (k x)) (h : Fin 8) (n j : Fin 16384) :
    val_main_v34 (F := Ideal) q k (ix3 h n j) = ∑ i ∈ Finset.range 16384, wt (sc q k n h i) (mR (sc q k n h) 16384) := by
  have hz : val_main_cst_3 (F := Ideal) (Shape.Idx.first h_S_) = (0 : EReal) := by
    rw [val_main_cst_3_apply]
    show Ideal.ieee 8 23 0x00000000#32 = _
    simp [Ideal.ieee]
  have hi : idx_main_v33 (idx_main_v34 (ix3 h n j)) = ix2 h n := funext fun a => Fin.ext (by fin_cases a <;> rfl)
  rw [val_main_v34_apply, val_main_v33_apply, hi, val_main_v32_apply, hz, zero_add, Finset.sum_range]
  refine Finset.sum_congr rfl fun i _ => ?_
  have hj : idx_main_v32 (ix2 h n) i = ix3 h n i := funext fun a => Fin.ext (by fin_cases a <;> rfl)
  rw [hj, v31_at hq hk]

end Cert.LatentRefIdeal.Hand

end
-- ==== Proof.LatentRegroup.lean ====
module

public import proofs.«01_k».proof.Proof.LatentRef
public import Idealize.ShloMosaic.Lib.Pipeline.Value

@[expose] public section

set_option maxRecDepth 16384

noncomputable section

namespace Cert.LatentRefIdeal.Hand

open Cert.LatentRefIdeal Cert.LatentRefIdeal.Gen Cert.LatentRefIdeal.Read
open Idealize.ShloMosaic Cert.RealSums Cert.LatentSum

variable (q k v : S16384x1024.Idx → Elt Ideal .bf16)

/-- The even heads' values. -/
theorem v10_at (n : Fin 16384) (p : Fin 4) (l : Fin 64) :
    val_main_v10 (F := Ideal) v (ix4 n p 0 l) = v (ix2 n ⟨256 * p.val + l.val, by omega⟩) := by
  rw [val_main_v10_apply, val_main_v7_apply, val_main_v6_apply, val_main_v5_apply, val_main_v4_apply]
  refine congrArg v (funext fun a => Fin.ext ?_)
  fin_cases a
  · show (((((n.val * 4 + p.val) * 64 + l.val) / 256 * 4 + ((n.val * 4 + p.val) * 64 + l.val) / 64 % 4) * 2 + 0) * 128 + ((n.val * 4 + p.val) * 64 + l.val) % 64) / 1024 = n.val
    omega
  · show (((((n.val * 4 + p.val) * 64 + l.val) / 256 * 4 + ((n.val * 4 + p.val) * 64 + l.val) / 64 % 4) * 2 + 0) * 128 + ((n.val * 4 + p.val) * 64 + l.val) % 64) % 1024 = 256 * p.val + l.val
    omega

/-- The odd heads' values. -/
theorem v11_at (n : Fin 16384) (p : Fin 4) (l : Fin 64) :
    val_main_v11 (F := Ideal) v (ix4 n p 0 l) = v (ix2 n ⟨256 * p.val + 192 + l.val, by omega⟩) := by
  rw [val_main_v11_apply, val_main_v9_apply, val_main_v8_apply, val_main_v5_apply, val_main_v4_apply]
  refine congrArg v (funext fun a => Fin.ext ?_)
  fin_cases a
  · show (((((n.val * 4 + p.val) * 64 + l.val) / 256 * 4 + ((n.val * 4 + p.val) * 64 + l.val) / 64 % 4) * 2 + (1 + 0)) * 128 + (64 + ((n.val * 4 + p.val) * 64 + l.val) % 64)) / 1024 = n.val
    omega
  · show (((((n.val * 4 + p.val) * 64 + l.val) / 256 * 4 + ((n.val * 4 + p.val) * 64 + l.val) / 64 % 4) * 2 + (1 + 0)) * 128 + (64 + ((n.val * 4 + p.val) * 64 + l.val) % 64)) % 1024 = 256 * p.val + 192 + l.val
    omega

/-- The first of two joined arrays. -/
theorem pair_left (y1 y2 : S16384x4x1x64.Idx → EReal) (n : Fin 16384) (p : Fin 4) (l : Fin 64) :
    concatenate S16384x4x2x64 2 [⟨S16384x4x1x64, y1⟩, ⟨S16384x4x1x64, y2⟩] concatenates_S16384x4x1x64_S16384x4x1x64_S16384x4x2x64_d2 (ix4 n p 0 l)
      = y1 (ix4 n p 0 l) := by
  refine concatenate_pair_apply_left (t := S16384x4x2x64) (s₁ := S16384x4x1x64) (s₂ := S16384x4x1x64) 2 y1 y2 _ _ rfl (ix4 n p 0 l) ?_
  intro b
  fin_cases b <;> rfl

/-- The second of two joined arrays. -/
theorem pair_right (y1 y2 : S16384x4x1x64.Idx → EReal) (n : Fin 16384) (p : Fin 4) (l : Fin 64) :
    concatenate S16384x4x2x64 2 [⟨S16384x4x1x64, y1⟩, ⟨S16384x4x1x64, y2⟩] concatenates_S16384x4x1x64_S16384x4x1x64_S16384x4x2x64_d2 (ix4 n p 1 l)
      = y2 (ix4 n p 0 l) := by
  refine concatenate_pair_apply_right (t := S16384x4x2x64) (s₁ := S16384x4x1x64) (s₂ := S16384x4x1x64) 2 y1 y2 _ _ rfl rfl (ix4 n p 0 l) ?_ rfl
  intro b hb
  fin_cases b
  · rfl
  · rfl
  · exact absurd rfl hb
  · rfl

/-- The values as the reference regroups them. -/
theorem v13_at (n : Fin 16384) (h : Fin 8) (l : Fin 64) :
    val_main_v13 (F := Ideal) v (ix3 n h l) = v (ix2 n ⟨128 * h.val + 64 * (h.val % 2) + l.val, by omega⟩) := by
  have hi : idx_main_v13 (ix3 n h l) = ix4 n ⟨h.val / 2, by omega⟩ ⟨h.val % 2, by omega⟩ l := by
    refine funext fun a => Fin.ext ?_
    fin_cases a
    · show ((n.val * 8 + h.val) * 64 + l.val) / 512 = n.val
      omega
    · show ((n.val * 8 + h.val) * 64 + l.val) / 128 % 4 = h.val / 2
      omega
    · show ((n.val * 8 + h.val) * 64 + l.val) / 64 % 2 = h.val % 2
      omega
    · show ((n.val * 8 + h.val) * 64 + l.val) % 64 = l.val
      omega
  rw [val_main_v13_apply, hi]
  unfold val_main_v12
  rcases Nat.mod_two_eq_zero_or_one h.val with e | e
  · have e0 : (⟨h.val % 2, by omega⟩ : Fin 2) = 0 := Fin.ext e
    rw [e0, pair_left, v10_at]
    refine congrArg v (congrArg (ix2 n) (Fin.ext ?_))
    show 256 * (h.val / 2) + l.val = 128 * h.val + 64 * (h.val % 2) + l.val
    omega
  · have e0 : (⟨h.val % 2, by omega⟩ : Fin 2) = 1 := Fin.ext e
    rw [e0, pair_right, v11_at]
    refine congrArg v (congrArg (ix2 n) (Fin.ext ?_))
    show 256 * (h.val / 2) + 192 + l.val = 128 * h.val + 64 * (h.val % 2) + l.val
    omega

end Cert.LatentRefIdeal.Hand

end
-- ==== Proof.LatentFinite.lean ====
module

public import proofs.«01_k».proof.Proof.LatentPre
public import proofs.«01_k».proof.Proof.Gen.Pre_finite_with_ones

@[expose] public section

set_option maxRecDepth 16384

noncomputable section

namespace Cert.LatentPre

open Idealize.ShloMosaic Idealize.ShloMosaic.TcCoe Cert.ExpertsPre

instance : Subsingleton Cert.Pre_finite_with_ones.S_.Idx := ⟨fun a b => funext fun x => x.elim0⟩

/-- The tables' condition together with finite queries and keys and the lanes of ones, read. -/
theorem finite_ones {a0 a1 a2 a3 a4} (h : Cert.Pre_finite_with_ones.fn (F := Ideal) a0 a1 a2 a3 a4 = fun _ => 1#1) :
    ((∀ n : Fin 272, a0 (ix1 n) = Cert.LatentIdeal.Gen.pinT_0 0 (ix1 n)) ∧ (∀ n : Fin 272, a1 (ix1 n) = Cert.LatentIdeal.Gen.pinT_1 0 (ix1 n)))
      ∧ (∀ x, ∃ r : ℝ, a2 x = (r : EReal)) ∧ (∀ x, ∃ r : ℝ, a3 x = (r : EReal))
      ∧ (∀ (n : Fin 16384) (l : Fin 1024), l.val % 256 = 64 ∨ l.val % 256 = 128 → a4 (ix2 n l) = (1 : EReal)) := by
  obtain ⟨e, e5⟩ := and_one (congrFun h (fun a => a.elim0))
  obtain ⟨e, e3⟩ := and_one e
  obtain ⟨e, e2⟩ := and_one e
  obtain ⟨e0, e1⟩ := and_one e
  refine ⟨⟨fun n => ?_, fun n => ?_⟩, fun x => real_of_abs (Host.reduce_andi_all _ _ _ _ _ e2 x), fun x => real_of_abs (Host.reduce_andi_all _ _ _ _ _ e3 x), fun n l hl => ?_⟩
  · refine (eq_of_bit (Host.reduce_andi_all _ _ _ _ _ e0 (ix1 n))).trans ?_
    clear e0 e1 e2 e3 e5 e h
    revert n
    decide +kernel
  · refine (eq_of_bit (Host.reduce_andi_all _ _ _ _ _ e1 (ix1 n))).trans ?_
    clear e0 e1 e2 e3 e5 e h
    revert n
    decide +kernel
  · have e6 : IntOp.ori (IntOp.andi (BitVec.ofBool (BitVec.ofNat 32 l.val &&& 255#32 != 64#32)) (BitVec.ofBool (BitVec.ofNat 32 l.val &&& 255#32 != 128#32)))
        (BitVec.ofBool (decide (a4 (ix2 n l) = Ideal.ofBits .f32 0x3F800000#32))) = 1#1 := Host.reduce_andi_all _ _ _ _ _ e5 (ix2 n l)
    have e7 : IntOp.andi (BitVec.ofBool (BitVec.ofNat 32 l.val &&& 255#32 != 64#32)) (BitVec.ofBool (BitVec.ofNat 32 l.val &&& 255#32 != 128#32)) = 0#1 := by
      clear e0 e1 e2 e3 e5 e6 e h
      revert l
      decide +kernel
    rw [e7] at e6
    have e8 : a4 (ix2 n l) = Ideal.ofBits .f32 0x3F800000#32 := of_decide_eq_true (bit_one ((by revert e6; generalize (BitVec.ofBool (decide (a4 (ix2 n l) = Ideal.ofBits .f32 0x3F800000#32))) = p; revert p; decide)))
    rw [e8]
    show Ideal.ieee 8 23 0x3F800000#32 = _
    simp [Ideal.ieee, -EReal.coe_mul]
    norm_num

/-- The same with finite queries and keys. -/
theorem pinned_finite (m : (ℓ : Loc Cert.LatentIdeal.nD Cert.LatentIdeal.τ Cert.LatentIdeal.sig) → Buf (Elt Ideal) ℓ)
    (h : Cert.Pre_LatentIdeal_finite_with_ones (hPre_finite_with_ones := Cert.Pre_finite_with_ones.Gen.facts) m) : Cert.LatentIdeal.Gen.Pinned 0 m :=
  ⟨fun c => ext1 (finite_ones (h c)).1.1, fun c => ext1 (finite_ones (h c)).1.2⟩

end Cert.LatentPre

end
-- ==== Proof.LatentValue.lean ====
module

public import proofs.«01_k».proof.Proof.LatentFinal
public import proofs.«01_k».proof.Proof.LatentSoft
public import proofs.«01_k».proof.Proof.LatentRegroup
public import proofs.«01_k».proof.Proof.LatentClaims
public import proofs.«01_k».proof.Proof.LatentFinite

@[expose] public section

set_option maxRecDepth 16384

noncomputable section

namespace Cert.LatentValue

open Idealize.ShloMosaic Idealize.ShloMosaic.TcCoe Idealize.SL.Sem Cert.RealSums Cert.LatentSum
open Cert.LatentIdeal (S16384x1024 S16384x512)
open Cert.LatentIdeal.Hand (SS VV SS_zero SS_rb Qt OUTL)
open Cert.LatentRefIdeal.Read Cert.LatentRefIdeal.Hand

section Equation

variable {q k v : S16384x1024.Idx → EReal} (hq : ∀ x, Fin' (q x)) (hk : ∀ x, Fin' (k x))

include hq hk

/-- One row, head and lane of the reference's result: the quotient of the two weighted sums. -/
theorem ref_head (n : Fin 16384) (h : Fin 8) (l : Fin 64) :
    val_main_v36 (F := Ideal) q k v (ix3 h l n) = Qt q k v n h ⟨64 * (h.val % 2) + l.val, by omega⟩ := by
  unfold Qt
  rw [quot (SS q k n h) (VV v h _) (SS_zero hq hk n h) (SS_rb hq hk n h) 16384 (by norm_num), val_main_v36_apply, Finset.sum_range]
  refine Finset.sum_congr rfl fun j _ => ?_
  have e1 : lidx_main_v36 (ix3 h l n) j = ix3 j h l := funext fun a => Fin.ext (by fin_cases a <;> rfl)
  have e2 : ridx_main_v36 (ix3 h l n) j = ix3 h n j := funext fun a => Fin.ext (by fin_cases a <;> rfl)
  rw [e1, e2, v13_at, val_main_v35_apply, v31_at hq hk, v34_at hq hk, mul_comm]
  have e3 : VV v h ⟨64 * (h.val % 2) + l.val, by omega⟩ j.val = v (ix2 j ⟨128 * h.val + 64 * (h.val % 2) + l.val, by omega⟩) := by
    unfold VV
    rw [dif_pos j.isLt]
    exact congrArg v (congrArg (ix2 j) (Fin.ext (by show 128 * h.val + (64 * (h.val % 2) + l.val) = 128 * h.val + 64 * (h.val % 2) + l.val; omega)))
  rw [e3]
  rfl

/-- On finite queries and keys the reference's result is the array the kernel leaves. -/
theorem ref_eq : val_main_v39 (F := Ideal) q k v = OUTL q k v := by
  refine funext fun (z : S16384x512.Idx) => ?_
  obtain ⟨n, d, rfl⟩ : ∃ (n : Fin 16384) (d : Fin 512), z = ix2 n d := ⟨z 0, z 1, by funext a; fin_cases a <;> rfl⟩
  have hi : idx_main_v37 (idx_main_v38 (ix2 n d)) = ix3 (⟨d.val / 64, by omega⟩ : Fin 8) (⟨d.val % 64, by omega⟩ : Fin 64) n := by
    refine funext fun a => Fin.ext ?_
    fin_cases a
    · show (n.val * 512 + d.val) / 64 % 8 = d.val / 64
      omega
    · show (n.val * 512 + d.val) % 64 = d.val % 64
      omega
    · show (n.val * 512 + d.val) / 512 = n.val
      omega
  rw [val_main_v39_apply, val_main_v38_apply, val_main_v37_apply, hi, ref_head hq hk]
  rfl

end Equation

/-- The kernel terminates without fault, with finite queries and keys and the lanes of ones. -/
theorem frame_ideal_finite : Cert.quiescent_LatentIdeal_pre_finite_with_ones (hLatentIdeal := Cert.LatentIdeal.Gen.facts)
    (hPre_finite_with_ones := Cert.Pre_finite_with_ones.Gen.facts) := by
  intro m g hp
  exact Cert.LatentIdeal.Gen.frame 0 m g (Cert.LatentPre.pinned_finite m hp)

/-- The reference terminates without fault, with finite queries and keys and the lanes of ones. -/
theorem frame_ref_finite : Cert.quiescent_LatentRefIdeal_pre_finite_with_ones (hLatentRefIdeal := Cert.LatentRefIdeal.Gen.facts)
    (hPre_finite_with_ones := Cert.Pre_finite_with_ones.Gen.facts) := by
  intro m g _
  exact Cert.LatentClaims.frame_ref m g trivial

/-- On finite queries and keys with the lanes of ones, and the version's own tables, the kernel leaves what the reference computes. -/
theorem value : Cert.algebraic_LatentIdeal_LatentRefIdeal_pre_finite_with_ones (hLatentIdeal := Cert.LatentIdeal.Gen.facts)
    (hLatentRefIdeal := Cert.LatentRefIdeal.Gen.facts) (hPre_finite_with_ones := Cert.Pre_finite_with_ones.Gen.facts) := by
  intro m g m' g' hp hag
  have hc := Cert.LatentPre.pinned_finite m hp
  have hq : ∀ c x, Fin' (Cert.LatentIdeal.Hand.qA m c x) := fun c => (Cert.LatentPre.finite_ones (hp c)).2.1
  have hk : ∀ c x, Fin' (Cert.LatentIdeal.Hand.kA m c x) := fun c => (Cert.LatentPre.finite_ones (hp c)).2.2.1
  have h1 := fun c => (Cert.LatentPre.finite_ones (hp c)).2.2.2
  refine ⟨fun c => OUTL (Cert.LatentIdeal.Hand.qA m c) (Cert.LatentIdeal.Hand.kA m c) (Cert.LatentIdeal.Hand.vA m c), ?_, ?_⟩
  · exact (θ_run _ _ _).mono (fun _ h c => ⟨((h.1 c).1 (3 : Fin 4)).trans (Cert.LatentIdeal.Hand.final m g hq hk h1 c), h.2 c⟩)
      (θ_run_and (Cert.LatentIdeal.Gen.run_main 0 m g hc) (Cert.LatentIdeal.Gen.unchanged 0 m g hc))
  · refine (θ_run _ _ _).mono (fun _ h c => ⟨(h c).1.trans ?_, (h c).2⟩) (Cert.LatentRefIdeal.Value.run (F := Ideal) m' g')
    refine (Cert.LatentRefIdeal.Read.val_main_v39_eq (F := Ideal) _ _).trans ?_
    obtain ⟨-, -, a2, a3, a4⟩ := hag c
    rw [a2, a3, a4]
    exact ref_eq (hq c) (hk c)

end Cert.LatentValue

end
-- ==== Proof.ExpertsIdealFrame.lean ====
/- The frame of the grouped expert call at every pair of tables in range: the pipeline at the two prefetched tables
   `ch`, the contents the output block has after each grid point, the body's obligation by its two control paths (a tile
   in use, a tile of padding), and the launch. The set-up of the launch and the obligation's steps are those of the
   generated certificate, stated here for all tables in range instead of one pair. -/
module

public import proofs.«01_k».proof.Proof.Gen.ExpertsIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra, embedded whole. -/
abbrev EP : Emb (UR sig nD τ) 𝕄 := emb₁

/-- Two prefetched tables in range: every tile's group is one of the four, and at least one tile is in use. -/
structure Tabs where
  /-- The group of each tile. -/
  grp : S36.Idx → BitVec 32
  /-- The number of tiles in use. -/
  used : S1.Idx → BitVec 32
  grp_lt : ∀ x, (grp x).toNat < 4
  used_pos : ∀ x, 1 ≤ (used x).toInt

variable (ch : Tabs)

/-- The group table. -/
def pinT_0 (ch : Tabs) : S36.Idx → BitVec 32 := ch.grp
/-- The table of the number of tiles in use. -/
def pinT_1 (ch : Tabs) : S1.Idx → BitVec 32 := ch.used

set_option backward.proofsInPublic true in
/-- The tables' contents. -/
def pfN : pre0.Contents (Elt Ideal) := fun | ⟨0, _⟩ => pinT_0 ch | ⟨1, _⟩ => pinT_1 ch | ⟨_ + 2, h⟩ => absurd h (by simp)

/-- The launch memory's tables are `ch`'s. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

/-- A multiple bound from a bound on the factor. -/
theorem blockBound {n k b B : Nat} (h : n < k) (hB : k * b ≤ B) : (n + 1) * b ≤ B :=
  le_trans (Nat.mul_le_mul_right b h) hB

/-- The one index of a one-element table. -/
theorem S1_eq (x y : S1.Idx) : x = y := by
  funext a
  fin_cases a
  exact Subsingleton.elim (α := Fin 1) _ _

/-- A grid point's second coordinate is 0. -/
theorem coord1 (i : grid0.Coords) : (i 1).val = 0 := Nat.lt_one_iff.mp (i 1).isLt

/-- The smaller of a small number and a positive count's predecessor is small. -/
theorem min_lt (n : Nat) (hn : n < 36) (v : BitVec 32) (hv : 1 ≤ v.toInt) :
    (Scalar.minsi (BitVec.ofNat 32 n) (Scalar.subi v 1#32)).toNat < 36 := by
  have hp : v.toNat < 2147483648 := by
    by_contra h
    have := BitVec.toInt_eq_toNat_cond v
    rw [if_neg (by omega)] at this
    have := v.isLt
    omega
  have e : v.toInt = v.toNat := by rw [BitVec.toInt_eq_toNat_cond, if_pos (by omega)]
  have hs : (v - 1#32).toNat = v.toNat - 1 := by
    have : 1 ≤ v.toNat := by omega
    rw [BitVec.toNat_sub]
    have : (1#32 : BitVec 32).toNat = 1 := rfl
    rw [this]; omega
  have key : Scalar.minsi (BitVec.ofNat 32 n) (Scalar.subi v 1#32) =
      bif (BitVec.ofNat 32 n).slt (v - 1#32) then BitVec.ofNat 32 n else v - 1#32 := by
    unfold Scalar.minsi IntOp.minsi
    exact (Bool.cond_eq_ite ..).symm
  rw [key]
  have ha : (BitVec.ofNat 32 n).toInt = n := by
    rw [BitVec.toInt_eq_toNat_cond, BitVec.toNat_ofNat, Nat.mod_eq_of_lt (by omega), if_pos (by omega)]
  have hb : (v - 1#32).toInt = (v.toNat - 1 : ℕ) := by
    rw [BitVec.toInt_eq_toNat_cond, hs, if_pos (by omega)]
  cases h : (BitVec.ofNat 32 n).slt (v - 1#32) with
  | true => rw [cond_true, BitVec.toNat_ofNat, Nat.mod_eq_of_lt (by omega)]; exact hn
  | false =>
    rw [cond_false]
    simp only [BitVec.slt, ha, hb, decide_eq_false_iff_not] at h
    rw [hs]; omega

/-- The expert block's index: the tile's group. -/
theorem grp_idx (v : BitVec 32) (n : Nat) (hn : n = 0) : Scalar.addi (Scalar.muli v 1#32) (BitVec.ofNat 32 n) = v := by
  subst hn
  simp [Scalar.addi, Scalar.muli, IntOp.addi, IntOp.muli]

/-- The side condition holds of all tables in range: every block is inside its array. -/
theorem ok_pfN : ∀ ch : Tabs, ok0 (F := Ideal) (pfN ch) := fun ch =>
  ⟨fun i => ⟨fun a => by
      fin_cases a
      · exact blockBound (k := 36) (min_lt _ (i 0).isLt _ (ch.used_pos _)) (by decide)
      · show (0 + 1) * 1152 ≤ 1152; decide, .inl rfl⟩,
   fun i => ⟨fun a => by
      fin_cases a
      · show (0 + 1) * 1 ≤ 4; decide
      · refine blockBound (k := 4) ?_ (by decide)
        exact lt_of_eq_of_lt (congrArg BitVec.toNat (grp_idx (ch.grp _) _ (coord1 i))) (ch.grp_lt _)
      · show (0 + 1) * 1024 ≤ 1024; decide
      · show (0 + 1) * 256 ≤ 256; decide, .inl rfl⟩,
   fun i => ⟨fun a => by
      fin_cases a
      · show (0 + 1) * 1 ≤ 4; decide
      · refine blockBound (k := 4) ?_ (by decide)
        exact lt_of_eq_of_lt (congrArg BitVec.toNat (grp_idx (ch.grp _) _ (coord1 i))) (ch.grp_lt _)
      · show (0 + 1) * 1024 ≤ 1024; decide
      · show (0 + 1) * 256 ≤ 256; decide, .inl rfl⟩,
   fun i => ⟨fun a => by
      fin_cases a
      · show (0 + 1) * 1 ≤ 4; decide
      · exact blockBound (k := 4) (ch.grp_lt _) (by decide)
      · show (0 + 1) * 2048 ≤ 2048; decide
      · show (0 + 1) * 1024 ≤ 1024; decide, .inl rfl⟩⟩

/-- The admissible contents, the pipeline at them (`cfgA ch`: member `ch`'s grid, 36 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x1152 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x8x1024x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x8x1024x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x2048x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1

/-- The number of tiles in use, as the body reads it. -/
abbrev nuW : BitVec 32 := View.readAt (Elt Ideal) (tbM0_1).view (Rect.unit (s := S1) ![0] S1.size inb_S1_S1_0).toLoadRect (pinT_1 ch) (Shape.Idx.first (numel1_S1.symm ▸ Nat.one_pos))

/-- Each grid point either computes its tile or stores zeros, according to the number of tiles in use. -/
theorem conds (i : grid0.Coords) (v : BitVec 32) :
    (k0_cond1 i v = 1#1 ∧ ¬ k0_cond12 i v = 1#1) ∨ (¬ k0_cond1 i v = 1#1 ∧ k0_cond12 i v = 1#1) := by
  unfold k0_cond1 k0_cond12
  simp only [coord1 i, Scalar.cmpi, IntOp.cmpi, Scalar.extui, Scalar.andi, IntOp.andi, BitVec.slt, BitVec.sle]
  by_cases h : (BitVec.ofNat 32 (i 0).val).toInt < v.toInt
  · left
    simp only [h, not_le.mpr h, decide_true, decide_false]
    decide
  · right
    simp only [h, not_lt.mp h, decide_true, decide_false]
    decide

/-- The comparison of a grid point's second coordinate with 0 is true. -/
theorem condj (i : grid0.Coords) : (Scalar.cmpi .ne (Scalar.extui (Scalar.cmpi .eq (BitVec.ofNat 32 (i 1).val) 0#32)) 0#32) = 1#1 := by
  rw [coord1 i]; decide

/-- The last step of the expert axis is every point's. -/
theorem condl (i : grid0.Coords) : k0_cond11 i = 1#1 := by
  unfold k0_cond11; simp only [coord1 i]; decide

/-- What a tile of padding is not. -/
theorem hypB (t : Fin (cfgA ch).N) (q : ¬P0_0 ch t) : k0_cond12 (crd ch t) (nuW ch) = 1#1 := by
  rcases conds (crd ch t) (nuW ch) with h | h
  · exact absurd h.1 q
  · exact h.2

/-- A tile in use is no padding. -/
theorem hypA (t : Fin (cfgA ch).N) (q : P0_0 ch t) : ¬ k0_cond12 (crd ch t) (nuW ch) = 1#1 := by
  rcases conds (crd ch t) (nuW ch) with h | h
  · exact h.2
  · exact absurd q h.1

/-- No point leaves the output alone. -/
theorem idle4 (t : Fin (cfgA ch).N) : (cfgA ch).idle (4 : Fin 5) ((cfgA ch).grid.coords t) = false := by
  have e : (cfgA ch).idle (4 : Fin 5) ((cfgA ch).grid.coords t)
      = (!(k0_cond1 (crd ch t) ((pfN ch).atD 1 ![0]) == 1#1 && k0_cond11 (crd ch t) == 1#1) && !(k0_cond12 (crd ch t) ((pfN ch).atD 1 ![0]) == 1#1)) := rfl
  rw [e, condl]
  rcases conds (crd ch t) ((pfN ch).atD 1 ![0]) with h | h
  · rw [h.1]; rfl
  · rw [h.2]; simp

/-- Every point writes its output block back. -/
theorem flush4 (t : Fin (cfgA ch).N) : ((cfgA ch).win (4 : Fin 5)).flush t = true :=
  (((cfgA ch).win (4 : Fin 5)).flush_reads rfl (0 : Fin 2) (show 1 < grid0.bound 0 by decide)
    (show grid0.fixedAfter reads0_4 0 = true by decide)
    (Pipeline.Window.sep_of_coord _ _ (0 : Fin 2) (fun _ => rfl) (show grid0.bound 0 ≤ 2 ^ 32 by decide)) (P := 1) (m := 0)
    (show grid0.stride 0 = 1 by decide) rfl t).mpr (Nat.mod_one _)

/-- So no point finds anything of its own in the output's buffer. -/
theorem fresh4 : ∀ n, n ≤ (cfgA ch).N → (cfgA ch).fresh (4 : Fin 5) n = true
  | 0, _ => rfl
  | n + 1, h => by rw [(cfgA ch).fresh_succ (4 : Fin 5) n h, flush4]; rfl

/-! ## What the output block has after each point -/

/-- A tile in use leaves the run's contents. -/
def outA (c : Dev nD) (t : Fin (cfgA ch).N) (q : P0_0 ch t) : S512x1024.Idx → Elt Ideal .f32 :=
  out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) q (condj _) (condj _) (condj _) (condj _) (condj _) (condj _) (condj _) (condj _) (condj _) (condl _) (hypA ch t q)

/-- A tile of padding leaves the run's contents. -/
def outB (c : Dev nD) (t : Fin (cfgA ch).N) (q : ¬P0_0 ch t) : S512x1024.Idx → Elt Ideal .f32 :=
  out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) default default q (hypB ch t q)

set_option maxHeartbeats 4000000 in
/-- Those do not depend on the scratch buffers. -/
theorem outB_eq (c : Dev nD) (t : Fin (cfgA ch).N) (q : ¬P0_0 ch t) (a0 a1) :
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) a0 a1 q (hypB ch t q) = outB ch m ρ c t q := by
  unfold outB out0_B_4
  rfl

/-- The output block after point `t`. -/
def outAt (c : Dev nD) (t : Fin (cfgA ch).N) : S512x1024.Idx → Elt Ideal .f32 :=
  if q : P0_0 ch t then outA ch m ρ c t q else outB ch m ρ c t q

/-- The invariant: the scratch buffers at any contents, and the body's halves of the tables. -/
def Phi (c : Dev nD) : sProp 𝕄 :=
  iprop((∃ a, (scM0_0.view.loc (c : Thread nD τ) ↦{fullShare} a)) ∗ (∃ a, (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => outAt ch m ρ c t
  Φ _ := Phi ch c
  q _ := fullShare
  owed _ := 0

/-- What window 0 holds after a step. -/
theorem after0_0 (c : Dev nD) (t : Fin (cfgA ch).N) : (dats ch m ρ 0 c).after (0 : Fin 5) t = iblk ch m ρ c (0 : Fin 5) t := rfl
/-- What window 1 holds after a step. -/
theorem after0_1 (c : Dev nD) (t : Fin (cfgA ch).N) : (dats ch m ρ 0 c).after (1 : Fin 5) t = iblk ch m ρ c (1 : Fin 5) t := rfl
/-- What window 2 holds after a step. -/
theorem after0_2 (c : Dev nD) (t : Fin (cfgA ch).N) : (dats ch m ρ 0 c).after (2 : Fin 5) t = iblk ch m ρ c (2 : Fin 5) t := rfl
/-- What window 3 holds after a step. -/
theorem after0_3 (c : Dev nD) (t : Fin (cfgA ch).N) : (dats ch m ρ 0 c).after (3 : Fin 5) t = iblk ch m ρ c (3 : Fin 5) t := rfl
/-- What window 4 holds after a step. -/
theorem after0_4 (c : Dev nD) (t : Fin (cfgA ch).N) : (dats ch m ρ 0 c).after (4 : Fin 5) t = outAt ch m ρ c t := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output window 4 holds junk when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl)
    (fun t _ hi _ => absurd hi (by rw [idle4]; exact Bool.false_ne_true)) t.val t rfl d, fresh4 ch t.val (Nat.le_of_lt t.isLt), if_pos rfl]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- The body at point `t`: the number of tiles in use tells the path; the inputs hold their blocks; the path's run applies. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle4 ch t]
  by_cases q : P0_0 ch t
  · simp only [before0_0, before0_1, before0_2, before0_3, before0_4, after0_0, after0_1, after0_2, after0_3, after0_4]
    rewrite [show outAt ch m ρ c t = outA ch m ρ c t q from dif_pos q,
      show (dats ch m ρ 0 c).Φ t.succ = Phi ch c from rfl, show (dats ch m ρ 0 c).Φ t.castSucc = Phi ch c from rfl,
      show (dats ch m ρ 0 c).owesAt () t.succ = (dats ch m ρ 0 c).owesAt () t.castSucc from rfl]
    unfold Phi
    iintro ⟨⟨⟨%a0, HS0⟩, ⟨%a1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) q (condj _) (condj _) (condj _) (condj _) (condj _) (condj _) (condj _) (condj _) (condj _) (condl _) (hypA ch t q)).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; iexact HS0
      isplitl [HS1]
      · iexists _; iexact HS1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      unfold outA out0_A_4
      exact View.read_writes_of_cover _ _ VO0_4 VO0_4.junk _ (cover0_A_4 c _ _ _ _ _ _ _ _ _ _ _ _ _ _ _ _ _ _ _ _ _ _ _ _ _ _ _ _ _)
  · simp only [before0_0, before0_1, before0_2, before0_3, before0_4, after0_0, after0_1, after0_2, after0_3, after0_4]
    rewrite [show outAt ch m ρ c t = outB ch m ρ c t q from dif_neg q,
      show (dats ch m ρ 0 c).Φ t.succ = Phi ch c from rfl, show (dats ch m ρ 0 c).Φ t.castSucc = Phi ch c from rfl,
      show (dats ch m ρ 0 c).owesAt () t.succ = (dats ch m ρ 0 c).owesAt () t.castSucc from rfl]
    unfold Phi
    iintro ⟨⟨⟨%a0, HS0⟩, ⟨%a1, HS1⟩, HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ q (hypB ch t q)).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; iexact HS0
      isplitl [HS1]
      · iexists _; iexact HS1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      refine (View.read_writes_of_cover _ _ VO0_4 VO0_4.junk _ (cover0_B_4 c _ _ _ _ _ _ _ _ _ _ _ _ _ _ _ _ _ _ _ _ _)).trans ?_
      exact outB_eq ch m ρ c t q _ _

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

/-- Every window is held whole. -/
theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c from rfl]
  unfold Phi
  iintro ⟨-, ⟨HT0, HT1⟩, ⟨%a0, HS0⟩, ⟨%a1, HS1⟩⟩
  isplitl [HS0]
  · iexists a0; iexact HS0
  isplitl [HS1]
  · iexists a1; iexact HS1
  isplitl [HT0]
  · iexact HT0
  iexact HT1

/-- at the last point it gives the scratch buffers back, the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c from rfl]
  unfold Phi
  iintro ⟨⟨%a0, HS0⟩, ⟨%a1, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- The tables in memory are the ones that were pinned. -/
theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame at tables in range: every weakly fair execution terminates, nothing faults, every argument array ends
    unchanged and every semaphore counter reads zero at every final state. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsIdeal.Hand

end
-- ==== Proof.ExpertsTile.lean ====
module

public import proofs.«01_k».proof.Proof.ExpertsIdealFrame
public import Idealize.ShloMosaic.Lib.Pointwise
public import Idealize.ShloMosaic.Lib.Pipeline.Value
public import Idealize.ShloMosaic.Lib.Tactic.RunNames

@[expose] public section

set_option maxRecDepth 16384

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.Sem

/-- What the kernel computes for one of the eight experts of its group, from the tile's hidden rows, its routing
    columns and the expert's two weight blocks: the gated, activated product, the gate being the column `w`. -/
def act1 (w : BitVec 32) (xb : Vec Ideal S512x1024 .bf16) (rt : Vec Ideal S512x128 .f32)
    (g u : Vec Ideal S1x1x1024x256 .f32) : FVec Ideal S512x256 .bf16 :=
  let a := matmul (F := Ideal) (φ₁ := .bf16) dot_S512x1024_S1024x256_S512x256_1_0_0_1_n_n none xb
    (truncf (F := Ideal) .bf16 (shapeCast S1024x256 g shapeCasts_S1x1x1024x256_S1024x256 : FVec Ideal S1024x256 .f32) bitsLt_bf16_f32)
    (constant S512x256 .f32 0x00000000#32)
  let b := matmul (F := Ideal) (φ₁ := .bf16) dot_S512x1024_S1024x256_S512x256_1_0_0_1_n_n none xb
    (truncf (F := Ideal) .bf16 (shapeCast S1024x256 u shapeCasts_S1x1x1024x256_S1024x256 : FVec Ideal S1024x256 .f32) bitsLt_bf16_f32)
    (constant S512x256 .f32 0x00000000#32)
  let gate : FVec Ideal S512 .f32 := multiReduction (F := Ideal) .add [1] S512
    (select (cmpi .eq (iota .tc S512x128 32 [1] iota_S512x128_d1_w32) (broadcast S512x128 w)) rt
      (broadcast S512x128 (Scalar.ofBits (F := Ideal) .f32 0x00000000#32)))
    0x00000000#32 reduces_S512x128_S512 (.inl rfl) rfl
  shapeCast S512x256 (truncf (F := Ideal) .bf16
    (mulf (mulf (mulf a (logistic a)) b)
      (broadcastTo S512x256 (shapeCast S512x1 gate shapeCasts_S512_S512x1) broadcasts_S512x1_S512x256))
    bitsLt_bf16_f32) shapeCasts_S512x256_S512x256

/-- One gated activation, from the whole blocks: expert `e` of the group, row `r` of the tile, feature `f`. -/
def actV (X : S512x1152.Idx → EReal) (G U : S1x8x1024x256.Idx → EReal) (r : Fin 512) (e : Fin 8) (f : Fin 256) : EReal :=
  (∑ d : Fin 1024, X (ix2 r ⟨d.val, by omega⟩) * G (ix4 0 e d f))
    * Ideal.logistic (∑ d : Fin 1024, X (ix2 r ⟨d.val, by omega⟩) * G (ix4 0 e d f))
    * (∑ d : Fin 1024, X (ix2 r ⟨d.val, by omega⟩) * U (ix4 0 e d f))
    * X (ix2 r ⟨1024 + e.val, by omega⟩)

/-- The sum that picks one routing column is that column. -/
theorem pick (w : BitVec 32) (k : Fin 128) (hw : w = BitVec.ofNat 32 k.val) (v : Fin 128 → EReal) :
    (∑ x : Fin 128, Scalar.select (IntOp.cmpi .eq (BitVec.ofNat 32 x.val) w) (v x) (0 : EReal)) = v k := by
  subst hw
  rw [Finset.sum_eq_single k]
  · simp [Scalar.select, IntOp.cmpi]
  · intro b _ hb
    have : BitVec.ofNat 32 b.val ≠ BitVec.ofNat 32 k.val := by
      intro h
      apply hb
      have := congrArg BitVec.toNat h
      simp only [BitVec.toNat_ofNat] at this
      have h1 := b.isLt
      have h2 := k.isLt
      exact Fin.ext (by omega)
    have e : IntOp.cmpi .eq (BitVec.ofNat 32 b.val) (BitVec.ofNat 32 k.val) = 0#1 := by
      show BitVec.ofBool (BitVec.ofNat 32 b.val == BitVec.ofNat 32 k.val) = 0#1
      rw [beq_eq_false_iff_ne.mpr this]; rfl
    rw [e]; rfl
  · intro h; exact absurd (Finset.mem_univ _) h

/-- One expert's payload is its gated activation. -/
theorem act1_apply (w : BitVec 32) (k : Fin 128) (hw : w = BitVec.ofNat 32 k.val) (xb rt g u) (r : Fin 512) (f : Fin 256) :
    act1 w xb rt g u (ix2 r f)
      = (∑ d : Fin 1024, xb (ix2 r d) * g (ix4 0 0 d f)) * Ideal.logistic (∑ d : Fin 1024, xb (ix2 r d) * g (ix4 0 0 d f))
          * (∑ d : Fin 1024, xb (ix2 r d) * u (ix4 0 0 d f)) * rt (ix2 r k) := by
  pointwise [act1]
  rw [pick w k hw]

/-- The activation stored by this expert is the one expression of its blocks. -/
theorem pay3_eq (g0 : BitVec 32) (xb rt g u) :
    k0_pay3 (F := Ideal) g0 xb rt g u = act1 (Scalar.addi (Scalar.muli g0 8#32) 0#32) xb rt g u := rfl

/-- The activation stored by this expert is the one expression of its blocks. -/
theorem pay4_eq (g0 : BitVec 32) (xb rt g u) :
    k0_pay4 (F := Ideal) g0 xb rt (iota .tc S512x128 32 [1] iota_S512x128_d1_w32) g u
      = act1 (Scalar.addi (Scalar.muli g0 8#32) 1#32) xb rt g u := rfl

/-- The activation stored by this expert is the one expression of its blocks. -/
theorem pay8_eq (g0 : BitVec 32) (xb rt g u) :
    k0_pay8 (F := Ideal) rt (iota .tc S512x128 32 [1] iota_S512x128_d1_w32) (k0_pay5 xb g) (k0_pay6 xb u) (k0_pay7 g0)
      = act1 (Scalar.addi (Scalar.muli g0 8#32) 2#32) xb rt g u := rfl

/-- The activation stored by this expert is the one expression of its blocks. -/
theorem pay10_eq (g0 : BitVec 32) (xb rt g u) :
    k0_pay10 (F := Ideal) (k0_pay9 g0 xb rt (iota .tc S512x128 32 [1] iota_S512x128_d1_w32) g u)
      = act1 (Scalar.addi (Scalar.muli g0 8#32) 3#32) xb rt g u := rfl

/-- The activation stored by this expert is the one expression of its blocks. -/
theorem pay11_eq (g0 : BitVec 32) (xb rt g u) :
    k0_pay11 (F := Ideal) g0 xb rt (iota .tc S512x128 32 [1] iota_S512x128_d1_w32) g u
      = act1 (Scalar.addi (Scalar.muli g0 8#32) 4#32) xb rt g u := rfl

/-- The activation stored by this expert is the one expression of its blocks. -/
theorem pay14_eq (g0 : BitVec 32) (xb rt g u) :
    k0_pay14 (F := Ideal) g0 xb rt (iota .tc S512x128 32 [1] iota_S512x128_d1_w32) (k0_pay12 xb g) (k0_pay13 u)
        (constant S512x256 .f32 0x00000000#32)
      = act1 (Scalar.addi (Scalar.muli g0 8#32) 5#32) xb rt g u := rfl

/-- The activation stored by this expert is the one expression of its blocks. -/
theorem pay16_eq (g0 : BitVec 32) (xb rt g u) :
    k0_pay16 (F := Ideal) (k0_pay15 g0 xb rt (iota .tc S512x128 32 [1] iota_S512x128_d1_w32) g u)
      = act1 (Scalar.addi (Scalar.muli g0 8#32) 6#32) xb rt g u := rfl

/-- The activation stored by this expert is the one expression of its blocks. -/
theorem pay17_eq (g0 : BitVec 32) (xb rt g u) :
    k0_pay17 (F := Ideal) g0 xb rt (iota .tc S512x128 32 [1] iota_S512x128_d1_w32) g u
      = act1 (Scalar.addi (Scalar.muli g0 8#32) 7#32) xb rt g u := rfl

/-- The second matrix product at an index. -/
theorem pay18_apply (A : Vec Ideal S512x2048 .bf16) (W : Vec Ideal S1x1x2048x1024 .f32) (r : Fin 512) (d : Fin 1024) :
    k0_pay18 (F := Ideal) A W (ix2 r d) = ∑ y : Fin 2048, A (ix2 r y) * W (ix4 0 0 y d) := by
  pointwise [k0_pay18]

/-- The tile's hidden rows at an index. -/
theorem pay2_apply (X : Vec Ideal S512x1024 .f32) (r : Fin 512) (d : Fin 1024) :
    k0_pay2 (F := Ideal) X (ix2 r d) = X (ix2 r d) := by
  pointwise [k0_pay2]

/-- One expert's payload, read from the whole blocks, is its gated activation there. -/
theorem act1_val (k : Fin 8) (w : BitVec 32) (hw : w = BitVec.ofNat 32 k.val) (X : S512x1152.Idx → EReal) (G U : S1x8x1024x256.Idx → EReal)
    (i0 i1 i2 i3) (r : Fin 512) (f : Fin 256) :
    act1 w (k0_pay2 (F := Ideal) (View.ld (Val := Elt Ideal) (e' := .f32) X (Rect.unit (s := S512x1152) ![0, 0] ![512, 1024] i0)))
        (View.ld (Val := Elt Ideal) (e' := .f32) X (Rect.unit (s := S512x1152) ![0, 1024] ![512, 128] i1))
        (View.ld (Val := Elt Ideal) (e' := .f32) G (Rect.unit (s := S1x8x1024x256) ![0, k.val, 0, 0] ![1, 1, 1024, 256] i2))
        (View.ld (Val := Elt Ideal) (e' := .f32) U (Rect.unit (s := S1x8x1024x256) ![0, k.val, 0, 0] ![1, 1, 1024, 256] i3)) (ix2 r f)
      = actV X G U r k f := by
  rw [act1_apply w ⟨k.val, by omega⟩ hw]
  have hX : ∀ d : Fin 1024, k0_pay2 (F := Ideal) (View.ld (Val := Elt Ideal) (e' := .f32) X (Rect.unit (s := S512x1152) ![0, 0] ![512, 1024] i0)) (ix2 r d)
      = X (ix2 r ⟨d.val, by omega⟩) := fun d => by
    rw [pay2_apply]
    exact congrArg X (funext fun a => by fin_cases a <;> exact Fin.ext (by simp [LoadRect.idx, Rect.emb, Rect.unit]))
  have hG : ∀ (V : S1x8x1024x256.Idx → EReal) (j) (d : Fin 1024),
      View.ld (Val := Elt Ideal) (e' := .f32) V (Rect.unit (s := S1x8x1024x256) ![0, k.val, 0, 0] ![1, 1, 1024, 256] j) (ix4 0 0 d f)
        = V (ix4 0 k d f) := fun V j d =>
    congrArg V (funext fun a => by fin_cases a <;> exact Fin.ext (by simp [LoadRect.idx, Rect.emb, Rect.unit]))
  have hR : View.ld (Val := Elt Ideal) (e' := .f32) X (Rect.unit (s := S512x1152) ![0, 1024] ![512, 128] i1) (ix2 r ⟨k.val, by omega⟩)
      = X (ix2 r ⟨1024 + k.val, by omega⟩) :=
    congrArg X (funext fun a => by fin_cases a <;> exact Fin.ext (by simp [LoadRect.idx, Rect.emb, Rect.unit]))
  have hA : ∀ (V : S1x8x1024x256.Idx → EReal) (j),
      (∑ d : Fin 1024, k0_pay2 (F := Ideal) (View.ld (Val := Elt Ideal) (e' := .f32) X (Rect.unit (s := S512x1152) ![0, 0] ![512, 1024] i0)) (ix2 r d)
          * View.ld (Val := Elt Ideal) (e' := .f32) V (Rect.unit (s := S1x8x1024x256) ![0, k.val, 0, 0] ![1, 1, 1024, 256] j) (ix4 0 0 d f) : EReal)
        = ∑ d : Fin 1024, X (ix2 r ⟨d.val, by omega⟩) * V (ix4 0 k d f) := fun V j =>
    Finset.sum_congr rfl fun d _ => congrArg₂ (· * ·) (hX d) (hG V j d)
  exact congrArg₂ (· * ·) (congrArg₂ (· * ·) (congrArg₂ (· * ·) (hA G i2) (congrArg Ideal.logistic (hA G i2))) (hA U i3)) hR

/-- The gated activations of the eight experts side by side. -/
def ACT (X : S512x1152.Idx → EReal) (G U : S1x8x1024x256.Idx → EReal) : S512x2048.Idx → EReal := fun y =>
  actV X G U (y 0) ⟨(y 1).val / 256, by have h : (y 1).val < 2048 := (y 1).isLt; omega⟩ ⟨(y 1).val % 256, Nat.mod_lt _ (by norm_num)⟩

/-- One stored piece agrees with the whole. -/
theorem piece_val (k : Fin 8) (w : BitVec 32) (hw : w = BitVec.ofNat 32 k.val) (X : S512x1152.Idx → EReal) (G U : S1x8x1024x256.Idx → EReal)
    {i0} (xb : S512x1024.Idx → Elt Ideal .bf16)
    (hxb : xb = k0_pay2 (F := Ideal) (View.ld (Val := Elt Ideal) (e' := .f32) X (Rect.unit (s := S512x1152) ![0, 0] ![512, 1024] i0)))
    (i1 i2 i3) (o : Nat) (ho : 256 * k.val = o) (i4) (x : S512x256.Idx) :
    act1 w xb
        (View.ld (Val := Elt Ideal) (e' := .f32) X (Rect.unit (s := S512x1152) ![0, 1024] ![512, 128] i1))
        (View.ld (Val := Elt Ideal) (e' := .f32) G (Rect.unit (s := S1x8x1024x256) ![0, k.val, 0, 0] ![1, 1, 1024, 256] i2))
        (View.ld (Val := Elt Ideal) (e' := .f32) U (Rect.unit (s := S1x8x1024x256) ![0, k.val, 0, 0] ![1, 1, 1024, 256] i3)) x
      = ACT X G U ((Rect.unit (s := S512x2048) ![0, o] ![512, 256] i4).emb x) := by
  subst ho hxb
  have hx : x = ix2 (x 0) (x 1) := by funext a; fin_cases a <;> rfl
  have h1 : (x 1).val < 256 := (x 1).isLt
  refine ((congrArg _ hx).trans (act1_val k w hw X G U i0 i1 i2 i3 (x 0) (x 1))).trans ?_
  unfold ACT
  have e1 : (((Rect.unit (s := S512x2048) ![0, 256 * k.val] ![512, 256] i4).emb x) 1).val = 256 * k.val + (x 1).val := by
    simp [Rect.emb, Rect.unit]
  congr 1
  · exact Fin.ext (by simp [Rect.emb, Rect.unit])
  · exact Fin.ext (by show k.val = _ / 256; rw [e1]; omega)
  · exact Fin.ext (by show (x 1).val = _ % 256; rw [e1]; omega)

/-- What the kernel leaves in its output block at a used tile, from the four input blocks. -/
def TILE (X : S512x1152.Idx → EReal) (G U : S1x8x1024x256.Idx → EReal) (W : S1x1x2048x1024.Idx → EReal) (r : Fin 512) (d : Fin 1024) : EReal :=
  ∑ y : Fin 2048, ACT X G U (ix2 r y) * W (ix4 0 0 y d)

/-- The tile's hidden rows read back after their one store. -/
theorem rows_read (w : S512x1024.Idx → Elt Ideal .bf16) :
    (View.whole cc0_scratch0).readCov [(⟨Rect.unit (s := S512x1024) ![0, 0] ![512, 1024] inb_S512x1024_S512x1024_0_0, w⟩ : View.Piece (Elt Ideal) S512x1024 .bf16)]
      (Rect.unit (s := S512x1024) ![0, 0] ![512, 1024] inb_S512x1024_S512x1024_0_0).toLoadRect = w :=
  View.readCov_unit_zero _ (by funext a; fin_cases a <;> rfl) _ w

/-- Every index of the eight activations' buffer lies in one of the eight stored pieces. -/
theorem acts_cover (w7 w6 w5 w4 w3 w2 w1 w0 : S512x256.Idx → Elt Ideal .bf16) : ∀ y : S512x2048.Idx, ∃ p ∈
    ([⟨Rect.unit (s := S512x2048) ![0, 1792] ![512, 256] inb_S512x2048_S512x256_0_1792, w7⟩,
      ⟨Rect.unit (s := S512x2048) ![0, 1536] ![512, 256] inb_S512x2048_S512x256_0_1536, w6⟩,
      ⟨Rect.unit (s := S512x2048) ![0, 1280] ![512, 256] inb_S512x2048_S512x256_0_1280, w5⟩,
      ⟨Rect.unit (s := S512x2048) ![0, 1024] ![512, 256] inb_S512x2048_S512x256_0_1024, w4⟩,
      ⟨Rect.unit (s := S512x2048) ![0, 768] ![512, 256] inb_S512x2048_S512x256_0_768, w3⟩,
      ⟨Rect.unit (s := S512x2048) ![0, 512] ![512, 256] inb_S512x2048_S512x256_0_512, w2⟩,
      ⟨Rect.unit (s := S512x2048) ![0, 256] ![512, 256] inb_S512x2048_S512x256_0_256, w1⟩,
      ⟨Rect.unit (s := S512x2048) ![0, 0] ![512, 256] inb_S512x2048_S512x256_0_0, w0⟩] : List (View.Piece (Elt Ideal) S512x2048 .bf16)),
    y ∈ p.1.set := by
  intro y
  have h0 : (y 0).val < 512 := (y 0).isLt
  have h1 : (y 1).val < 2048 := (y 1).isLt
  have key : ∀ (o : Nat) (inb), o ≤ (y 1).val → (y 1).val < o + 256 → y ∈ (Rect.unit (s := S512x2048) ![0, o] ![512, 256] inb).set := by
    intro o inb ha hb
    rw [Rect.mem_set_unit]
    intro a
    fin_cases a
    · exact ⟨Nat.zero_le _, by simpa using h0⟩
    · exact ⟨ha, hb⟩
  rcases (show (1792 ≤ (y 1).val) ∨ (1536 ≤ (y 1).val ∧ (y 1).val < 1792) ∨ (1280 ≤ (y 1).val ∧ (y 1).val < 1536) ∨
      (1024 ≤ (y 1).val ∧ (y 1).val < 1280) ∨ (768 ≤ (y 1).val ∧ (y 1).val < 1024) ∨ (512 ≤ (y 1).val ∧ (y 1).val < 768) ∨
      (256 ≤ (y 1).val ∧ (y 1).val < 512) ∨ (y 1).val < 256 by omega) with h | h | h | h | h | h | h | h
  · exact ⟨_, .head _, key 1792 inb_S512x2048_S512x256_0_1792 (by omega) (by omega)⟩
  · exact ⟨_, .tail _ (.head _), key 1536 inb_S512x2048_S512x256_0_1536 (by omega) (by omega)⟩
  · exact ⟨_, .tail _ (.tail _ (.head _)), key 1280 inb_S512x2048_S512x256_0_1280 (by omega) (by omega)⟩
  · exact ⟨_, .tail _ (.tail _ (.tail _ (.head _))), key 1024 inb_S512x2048_S512x256_0_1024 (by omega) (by omega)⟩
  · exact ⟨_, .tail _ (.tail _ (.tail _ (.tail _ (.head _)))), key 768 inb_S512x2048_S512x256_0_768 (by omega) (by omega)⟩
  · exact ⟨_, .tail _ (.tail _ (.tail _ (.tail _ (.tail _ (.head _))))), key 512 inb_S512x2048_S512x256_0_512 (by omega) (by omega)⟩
  · exact ⟨_, .tail _ (.tail _ (.tail _ (.tail _ (.tail _ (.tail _ (.head _)))))), key 256 inb_S512x2048_S512x256_0_256 (by omega) (by omega)⟩
  · exact ⟨_, .tail _ (.tail _ (.tail _ (.tail _ (.tail _ (.tail _ (.tail _ (.head _))))))), key 0 inb_S512x2048_S512x256_0_0 (by omega) (by omega)⟩

set_option maxHeartbeats 2000000 in
/-- The output block a used tile leaves, at any staging buffers and any input blocks. -/
theorem outA_gen (c : Dev nD) (i : grid0.Coords) (M0 : Memref sig .tc .vmem S512x1152 .f32) (h0 : M0.IsWhole)
    (M1 : Memref sig .tc .vmem S1x8x1024x256 .f32) (h1 : M1.IsWhole) (M2 : Memref sig .tc .vmem S1x8x1024x256 .f32) (h2 : M2.IsWhole)
    (M3 : Memref sig .tc .vmem S1x1x2048x1024 .f32) (h3 : M3.IsWhole) (M4 : Memref sig .tc .vmem S512x1024 .f32) (h4 : M4.IsWhole)
    (T0 T1) (X : S512x1152.Idx → Elt Ideal .f32) (G U : S1x8x1024x256.Idx → Elt Ideal .f32) (W : S1x1x2048x1024.Idx → Elt Ideal .f32)
    (q0 q1 q2 q3 q4 q5 q6 q7 q8 q9 q10 q11) (r : Fin 512) (d : Fin 1024) :
    out0_A_4 c i M0 h0 M1 h1 M2 h2 M3 h3 M4 h4 T0 T1 X G U W q0 q1 q2 q3 q4 q5 q6 q7 q8 q9 q10 q11 (ix2 r d) = TILE X G U W r d := by
  have hg : BitVec.ofNat 32 (i 1).val = 0#32 := by rw [coord1]
  unfold out0_A_4
  rw [View.read_writes_eq_canon _ _ _ (cover0_A_4 c _ _ _ _ _ _ _ _ _ _ _ _ _ _ _ _ _ _ _ _ _ _ _ _ _ _ _ _ _)]
  unfold kernelRun0_A; dsimp only
  sl_unfold_run_names
  simp only [View.readAt_eq_ld, View.read_rep, hg]
  rw [View.canon_unit_zero (by funext a; fin_cases a <;> rfl)]
  refine (pay18_apply _ _ r d).trans (Finset.sum_congr rfl fun y _ => congrArg₂ (· * ·) ?_ ?_)
  · refine (congrFun (View.readCov_eq_canon_ld _ _ _ ?_) _).trans ?_
    · exact acts_cover _ _ _ _ _ _ _ _
    · rw [View.ld_unit_zero (by funext a; fin_cases a <;> rfl)]
      refine View.canon_apply_of_pieces (ACT X G U) _ ?_ _ (acts_cover _ _ _ _ _ _ _ _ _)
      intro p hp x
      simp only [List.mem_cons, List.mem_nil_iff, or_false] at hp
      rcases hp with rfl | rfl | rfl | rfl | rfl | rfl | rfl | rfl
      · exact piece_val 7 _ rfl X G U _ (rows_read _) _ _ _ 1792 rfl inb_S512x2048_S512x256_0_1792 x
      · exact piece_val 6 _ rfl X G U _ (rows_read _) _ _ _ 1536 rfl inb_S512x2048_S512x256_0_1536 x
      · exact piece_val 5 _ rfl X G U _ (rows_read _) _ _ _ 1280 rfl inb_S512x2048_S512x256_0_1280 x
      · exact piece_val 4 _ rfl X G U _ (rows_read _) _ _ _ 1024 rfl inb_S512x2048_S512x256_0_1024 x
      · exact piece_val 3 _ rfl X G U _ (rows_read _) _ _ _ 768 rfl inb_S512x2048_S512x256_0_768 x
      · exact piece_val 2 _ rfl X G U _ (rows_read _) _ _ _ 512 rfl inb_S512x2048_S512x256_0_512 x
      · exact piece_val 1 _ rfl X G U _ (rows_read _) _ _ _ 256 rfl inb_S512x2048_S512x256_0_256 x
      · exact piece_val 0 _ rfl X G U _ (rows_read _) _ _ _ 0 rfl inb_S512x2048_S512x256_0_0 x
  · rw [View.ld_unit_zero (by funext a; fin_cases a <;> rfl)]

variable (ch : Tabs) (m : (ℓ : Loc nD τ sig) → Buf (Elt Ideal) ℓ) (ρ : Dev nD → PrngReg)

/-- The output block of a used tile. -/
theorem outA_val (c : Dev nD) (t : Fin (cfgA ch).N) (q : P0_0 ch t) (r : Fin 512) (d : Fin 1024) :
    outA ch m ρ c t q (ix2 r d) = TILE (iblk ch m ρ c 0 t) (iblk ch m ρ c 1 t) (iblk ch m ρ c 2 t) (iblk ch m ρ c 3 t) r d :=
  outA_gen c _ _ _ _ _ _ _ _ _ _ _ _ _ _ _ _ _ _ _ _ _ _ _ _ _ _ _ _ _ r d

set_option maxHeartbeats 2000000 in
/-- The output block of a tile of padding is zero. -/
theorem outB_val (c : Dev nD) (t : Fin (cfgA ch).N) (q : ¬P0_0 ch t) (x : S512x1024.Idx) :
    outB ch m ρ c t q x = (0 : EReal) := by
  unfold outB out0_B_4
  rw [View.read_writes_eq_canon _ _ _ (cover0_B_4 c _ _ _ _ _ _ _ _ _ _ _ _ _ _ _ _ _ _ _ _ _)]
  unfold kernelRun0_B; dsimp only
  sl_unfold_run_names
  rw [View.canon_unit_zero (by funext a; fin_cases a <;> rfl)]
  pointwise [k0_pay1]

end Cert.ExpertsIdeal.Hand
-- ==== Proof.ExpertsFinal.lean ====
module

public import proofs.«01_k».proof.Proof.ExpertsTile

@[expose] public section

set_option maxRecDepth 16384

noncomputable section

namespace Cert.ExpertsIdeal.Hand

open Cert.ExpertsIdeal Cert.ExpertsIdeal.Gen
open Idealize.ShloMosaic
open Idealize.ShloMosaic.TcCoe Idealize.ShloMosaic.Tactic
open Idealize.SL Idealize.SL.Sem

/-- One gated activation from the whole arrays: row `n`, expert `8 g + e`, feature `f`, the gate in column `e`. -/
def actN (H : S18432x1152.Idx → EReal) (WG WU : S4x32x1024x256.Idx → EReal) (g : Fin 4) (n : Fin 18432) (e : Fin 8) (f : Fin 256) : EReal :=
  (∑ d : Fin 1024, H (ix2 n ⟨d.val, by omega⟩) * WG (ix4 0 ⟨8 * g.val + e.val, by omega⟩ d f))
    * Ideal.logistic (∑ d : Fin 1024, H (ix2 n ⟨d.val, by omega⟩) * WG (ix4 0 ⟨8 * g.val + e.val, by omega⟩ d f))
    * (∑ d : Fin 1024, H (ix2 n ⟨d.val, by omega⟩) * WU (ix4 0 ⟨8 * g.val + e.val, by omega⟩ d f))
    * H (ix2 n ⟨1024 + e.val, by omega⟩)

/-- One row of a used tile whose group is `g`. -/
def rowN (H : S18432x1152.Idx → EReal) (WG WU : S4x32x1024x256.Idx → EReal) (WD : S4x4x2048x1024.Idx → EReal) (g : Fin 4) (n : Fin 18432) (d : Fin 1024) : EReal :=
  ∑ y : Fin 2048, actN H WG WU g n ⟨y.val / 256, by omega⟩ ⟨y.val % 256, Nat.mod_lt _ (by norm_num)⟩ * WD (ix4 0 g y d)

/-- The tile of a row. -/
def tileOf (n : Fin 18432) : Fin 36 := ⟨n.val / 512, by omega⟩

/-- The whole output array: the rows of the used tiles, zero below them. -/
def OUT (H : S18432x1152.Idx → EReal) (WG WU : S4x32x1024x256.Idx → EReal) (WD : S4x4x2048x1024.Idx → EReal) (ch : Tabs) : S18432x1024.Idx → EReal := fun z =>
  if (BitVec.ofNat 32 (tileOf (z 0)).val).slt (ch.used (ix1 0)) then
    rowN H WG WU WD ⟨(ch.grp (ix1 (tileOf (z 0)))).toNat, ch.grp_lt _⟩ (z 0) (z 1)
  else 0

variable (ch : Tabs) (m : (ℓ : Loc nD τ sig) → Buf (Elt Ideal) ℓ) (ρ : Dev nD → PrngReg)

/-- A step's first coordinate is its number. -/
theorem crd0 (t : Fin (cfgA ch).N) : ((crd ch t) 0).val = t.val :=
  (show ∀ t : Fin grid0.N, (grid0.coords t 0).val = t.val by decide) t

/-- There are 36 steps. -/
theorem tlt (t : Fin (cfgA ch).N) : t.val < 36 := lt_of_lt_of_eq t.isLt (show grid0.N = 36 by decide)

/-- The number of tiles in use, as the table holds it. -/
theorem nuW_eq : nuW ch = ch.used (ix1 0) := congrArg ch.used (S1_eq _ _)

/-- The body takes its first path where the tile is in use. -/
theorem used_iff (t : Fin (cfgA ch).N) : P0_0 ch t ↔ (BitVec.ofNat 32 t.val).slt (ch.used (ix1 0)) = true := by
  rw [← nuW_eq, ← crd0 ch t]
  show k0_cond1 (crd ch t) (nuW ch) = 1#1 ↔ _
  unfold k0_cond1
  simp only [coord1, Scalar.cmpi, IntOp.cmpi, Scalar.extui, Scalar.andi, IntOp.andi]
  cases (BitVec.ofNat 32 ((crd ch t) 0).val).slt (nuW ch) <;> simp

/-- Below the number of tiles in use, the bounded block index is the tile itself. -/
theorem min_used (n : Nat) (hn : n < 36) (v : BitVec 32) (h : (BitVec.ofNat 32 n).slt v = true) :
    (Scalar.minsi (BitVec.ofNat 32 n) (Scalar.subi v 1#32)).toNat = n := by
  have key : Scalar.minsi (BitVec.ofNat 32 n) (Scalar.subi v 1#32)
      = bif (BitVec.ofNat 32 n).slt (Scalar.subi v 1#32) then BitVec.ofNat 32 n else Scalar.subi v 1#32 := by
    unfold Scalar.minsi IntOp.minsi; exact (Bool.cond_eq_ite ..).symm
  rw [key]
  have hs : Scalar.subi v 1#32 = v - 1#32 := rfl
  have hv : (BitVec.ofNat 32 n).toInt < v.toInt := by simpa [BitVec.slt] using h
  have hn' : (BitVec.ofNat 32 n).toInt = n := by
    rw [BitVec.toInt_eq_toNat_cond, BitVec.toNat_ofNat]; omega
  cases h' : (BitVec.ofNat 32 n).slt (Scalar.subi v 1#32) with
  | true => rw [cond_true, BitVec.toNat_ofNat]; omega
  | false =>
    rw [cond_false, hs]
    have h2 : ¬ (BitVec.ofNat 32 n).toInt < (v - 1#32).toInt := by rw [hs] at h'; simpa [BitVec.slt] using h'
    have h3 := v.isLt
    rw [BitVec.toInt_eq_toNat_cond v] at hv
    rw [BitVec.toInt_eq_toNat_cond (v - 1#32)] at h2
    rw [BitVec.toNat_sub] at h2 ⊢
    simp only [BitVec.toNat_ofNat] at h2 ⊢
    omega

/-- The index maps at a used tile. -/
theorem idx0 (t : Fin (cfgA ch).N) (q : P0_0 ch t) : ((cfgA ch).win 0).index t (0 : Fin 2) = t.val := by
  have h := (used_iff ch t).mp q
  have e : ((cfgA ch).win 0).index t (0 : Fin 2) = (Scalar.minsi (BitVec.ofNat 32 ((crd ch t) 0).val) (Scalar.subi (nuW ch) 1#32)).toNat := rfl
  rw [e, crd0, nuW_eq]
  exact min_used _ (tlt ch t) _ h

/-- The group of a step's tile, read from the table. -/
theorem tile_at (t : Fin (cfgA ch).N) (y : S36.Idx) (hy : (y 0).val = (BitVec.ofNat 32 ((crd ch t) 0).val).toNat) :
    ch.grp y = ch.grp (ix1 ⟨t.val, tlt ch t⟩) := by
  refine congrArg ch.grp (funext fun a => Fin.ext ?_)
  fin_cases a
  show (y 0).val = t.val
  rw [hy, crd0, BitVec.toNat_ofNat]
  have := tlt ch t
  omega

/-- The group of a step's block of the gate projection. -/
theorem idx1 (t : Fin (cfgA ch).N) : ((cfgA ch).win 1).index t (1 : Fin 4) = (ch.grp (ix1 ⟨t.val, tlt ch t⟩)).toNat := by
  exact (congrArg BitVec.toNat (grp_idx _ _ (coord1 _))).trans (congrArg BitVec.toNat (tile_at ch t _ rfl))

/-- The group of a step's block of the up projection. -/
theorem idx2 (t : Fin (cfgA ch).N) : ((cfgA ch).win 2).index t (1 : Fin 4) = (ch.grp (ix1 ⟨t.val, tlt ch t⟩)).toNat := idx1 ch t

/-- The group of a step's block of the down projection. -/
theorem idx3 (t : Fin (cfgA ch).N) : ((cfgA ch).win 3).index t (1 : Fin 4) = (ch.grp (ix1 ⟨t.val, tlt ch t⟩)).toNat :=
  congrArg BitVec.toNat (tile_at ch t _ rfl)

/-- A used tile's hidden rows are the rows of its own block. -/
theorem blk0 (c : Dev nD) (t : Fin (cfgA ch).N) (q : P0_0 ch t) (r : Fin 512) (k : Fin 1152) :
    iblk ch m ρ c 0 t (ix2 r k) = m ((c : Thread nD τ).loc main_arg2) (ix2 ⟨512 * t.val + r.val, by have := tlt ch t; omega⟩ k) := by
  show m ((c : Thread nD τ).loc main_arg2) _ = _
  refine congrArg _ (funext fun a => Fin.ext ?_)
  refine (Pipeline.Window.rect_emb_val ((cfgA ch).win 0) t _ a).trans ?_
  fin_cases a
  · show ((cfgA ch).win 0).index t (0 : Fin 2) * 512 + r.val = 512 * t.val + r.val
    rw [idx0 ch t q]; omega
  · show 0 * 1152 + k.val = k.val
    omega

/-- The group of point `t`. -/
abbrev grpOf (t : Fin (cfgA ch).N) : Fin 4 := ⟨(ch.grp (ix1 ⟨t.val, tlt ch t⟩)).toNat, ch.grp_lt _⟩

/-- A tile's gate weights are those of its group's experts. -/
theorem blk1 (c : Dev nD) (t : Fin (cfgA ch).N) (e : Fin 8) (d : Fin 1024) (f : Fin 256) :
    iblk ch m ρ c 1 t (ix4 0 e d f) = m ((c : Thread nD τ).loc main_arg3) (ix4 0 ⟨8 * (grpOf ch t).val + e.val, by omega⟩ d f) := by
  show m ((c : Thread nD τ).loc main_arg3) _ = _
  refine congrArg _ (funext fun a => Fin.ext ?_)
  refine (Pipeline.Window.rect_emb_val ((cfgA ch).win 1) t _ a).trans ?_
  fin_cases a
  · show 0 * 1 + 0 = 0; rfl
  · show ((cfgA ch).win 1).index t (1 : Fin 4) * 8 + e.val = _
    rw [idx1 ch t]; show _ = 8 * (ch.grp _).toNat + e.val; omega
  · show 0 * 1024 + d.val = d.val; omega
  · show 0 * 256 + f.val = f.val; omega

/-- A tile's up weights are those of its group's experts. -/
theorem blk2 (c : Dev nD) (t : Fin (cfgA ch).N) (e : Fin 8) (d : Fin 1024) (f : Fin 256) :
    iblk ch m ρ c 2 t (ix4 0 e d f) = m ((c : Thread nD τ).loc main_arg4) (ix4 0 ⟨8 * (grpOf ch t).val + e.val, by omega⟩ d f) := by
  show m ((c : Thread nD τ).loc main_arg4) _ = _
  refine congrArg _ (funext fun a => Fin.ext ?_)
  refine (Pipeline.Window.rect_emb_val ((cfgA ch).win 2) t _ a).trans ?_
  fin_cases a
  · show 0 * 1 + 0 = 0; rfl
  · show ((cfgA ch).win 2).index t (1 : Fin 4) * 8 + e.val = _
    rw [idx2 ch t]; show _ = 8 * (ch.grp _).toNat + e.val; omega
  · show 0 * 1024 + d.val = d.val; omega
  · show 0 * 256 + f.val = f.val; omega

/-- A tile's down weights are those of its group. -/
theorem blk3 (c : Dev nD) (t : Fin (cfgA ch).N) (y : Fin 2048) (d : Fin 1024) :
    iblk ch m ρ c 3 t (ix4 0 0 y d) = m ((c : Thread nD τ).loc main_arg5) (ix4 0 (grpOf ch t) y d) := by
  show m ((c : Thread nD τ).loc main_arg5) _ = _
  refine congrArg _ (funext fun a => Fin.ext ?_)
  refine (Pipeline.Window.rect_emb_val ((cfgA ch).win 3) t _ a).trans ?_
  fin_cases a
  · show 0 * 1 + 0 = 0; rfl
  · show ((cfgA ch).win 3).index t (1 : Fin 4) * 1 + 0 = _
    rw [idx3 ch t]; show _ = (ch.grp _).toNat; omega
  · show 0 * 2048 + y.val = y.val; omega
  · show 0 * 1024 + d.val = d.val; omega

/-- The arrays' values on a device. -/
abbrev outOf (c : Dev nD) : S18432x1024.Idx → EReal :=
  OUT (m ((c : Thread nD τ).loc main_arg2)) (m ((c : Thread nD τ).loc main_arg3)) (m ((c : Thread nD τ).loc main_arg4)) (m ((c : Thread nD τ).loc main_arg5)) ch

/-- What a used tile leaves is its rows of the whole output. -/
theorem tile_eq (c : Dev nD) (t : Fin (cfgA ch).N) (q : P0_0 ch t) (r : Fin 512) (d : Fin 1024) :
    TILE (iblk ch m ρ c 0 t) (iblk ch m ρ c 1 t) (iblk ch m ρ c 2 t) (iblk ch m ρ c 3 t) r d
      = rowN (m ((c : Thread nD τ).loc main_arg2)) (m ((c : Thread nD τ).loc main_arg3)) (m ((c : Thread nD τ).loc main_arg4)) (m ((c : Thread nD τ).loc main_arg5))
          (grpOf ch t) ⟨512 * t.val + r.val, by have := tlt ch t; omega⟩ d := by
  unfold TILE rowN
  refine Finset.sum_congr rfl fun y _ => congrArg₂ (· * ·) ?_ (blk3 ch m ρ c t y d)
  show actV (iblk ch m ρ c 0 t) (iblk ch m ρ c 1 t) (iblk ch m ρ c 2 t) r ⟨y.val / 256, by omega⟩ ⟨y.val % 256, Nat.mod_lt _ (by norm_num)⟩ = _
  generalize (⟨y.val / 256, _⟩ : Fin 8) = e
  generalize (⟨y.val % 256, _⟩ : Fin 256) = f
  unfold actV actN
  have hA := Finset.sum_congr (rfl : (Finset.univ : Finset (Fin 1024)) = _) fun d' _ =>
    congrArg₂ (fun a b : EReal => a * b) (blk0 ch m ρ c t q r ⟨d'.val, by omega⟩) (blk1 ch m ρ c t e d' f)
  have hB := Finset.sum_congr (rfl : (Finset.univ : Finset (Fin 1024)) = _) fun d' _ =>
    congrArg₂ (fun a b : EReal => a * b) (blk0 ch m ρ c t q r ⟨d'.val, by omega⟩) (blk2 ch m ρ c t e d' f)
  exact congrArg₂ (fun a b : EReal => a * b) (congrArg₂ (fun a b : EReal => a * b) (congrArg₂ (fun a b : EReal => a * b) hA (congrArg Ideal.logistic hA)) hB)
    (blk0 ch m ρ c t q r ⟨1024 + e.val, by omega⟩)

/-- What point `t` leaves in its block, at an index. -/
theorem outAt_val (c : Dev nD) (t : Fin (cfgA ch).N) (r : Fin 512) (d : Fin 1024) :
    outAt ch m ρ c t (ix2 r d) = outOf ch m c (ix2 ⟨512 * t.val + r.val, by have := tlt ch t; omega⟩ d) := by
  have ht := tlt ch t
  have hT : tileOf ⟨512 * t.val + r.val, by omega⟩ = ⟨t.val, ht⟩ := Fin.ext (by show (512 * t.val + r.val) / 512 = t.val; omega)
  have e : outOf ch m c (ix2 ⟨512 * t.val + r.val, by omega⟩ d)
      = if (BitVec.ofNat 32 t.val).slt (ch.used (ix1 0)) then
          rowN (m ((c : Thread nD τ).loc main_arg2)) (m ((c : Thread nD τ).loc main_arg3)) (m ((c : Thread nD τ).loc main_arg4)) (m ((c : Thread nD τ).loc main_arg5))
            (grpOf ch t) ⟨512 * t.val + r.val, by omega⟩ d else 0 := by
    show (if (BitVec.ofNat 32 (tileOf ⟨512 * t.val + r.val, by omega⟩).val).slt (ch.used (ix1 0)) then
      rowN _ _ _ _ ⟨(ch.grp (ix1 (tileOf ⟨512 * t.val + r.val, by omega⟩))).toNat, ch.grp_lt _⟩ ⟨512 * t.val + r.val, by omega⟩ d else 0) = _
    simp only [hT]
  rw [e]
  unfold outAt
  by_cases q : P0_0 ch t
  · rw [dif_pos q, if_pos ((used_iff ch t).mp q)]
    exact (outA_val ch m ρ c t q r d).trans (tile_eq ch m ρ c t q r d)
  · rw [dif_neg q, if_neg fun h => q ((used_iff ch t).mpr h)]
    exact outB_val ch m ρ c t q _

/-- Where an element of block `t` lies in the output. -/
theorem emb4 (t : Fin (cfgA ch).N) (r : Fin 512) (d : Fin 1024) :
    (((cfgA ch).win 4).blk t).view.emb (ix2 r d) = ix2 ⟨512 * t.val + r.val, by have := tlt ch t; omega⟩ d := by
  refine funext fun a => Fin.ext ?_
  refine (Pipeline.Window.rect_emb_val ((cfgA ch).win 4) t _ a).trans ?_
  fin_cases a
  · show (BitVec.ofNat 32 ((crd ch t) 0).val).toNat * 512 + r.val = 512 * t.val + r.val
    rw [crd0, BitVec.toNat_ofNat]
    have := tlt ch t
    omega
  · show 0 * 1024 + d.val = d.val
    omega

/-- The output array at the end. -/
theorem final (c : Dev nD) : (dats ch m ρ 0 c).arrAt 4 (cfgA ch).N = outOf ch m c := by
  refine (dats ch m ρ 0 c).arrAt_eq_of_cover 4 (outOf ch m c) (fun t _ => funext fun (y : S512x1024.Idx) => ?_) fun (z : S18432x1024.Idx) => ?_
  · obtain ⟨r, d, rfl⟩ : ∃ (r : Fin 512) (d : Fin 1024), y = ix2 r d := ⟨y 0, y 1, by funext a; fin_cases a <;> rfl⟩
    exact (outAt_val ch m ρ c t r d).trans (congrArg (outOf ch m c) (emb4 ch t r d).symm)
  · obtain ⟨n, d, rfl⟩ : ∃ (n : Fin 18432) (d : Fin 1024), z = ix2 n d := ⟨z 0, z 1, by funext a; fin_cases a <;> rfl⟩
    have hN : (cfgA ch).N = 36 := show grid0.N = 36 by decide
    refine ⟨⟨n.val / 512, by omega⟩, flush4 ch _, ?_⟩
    have e := emb4 ch ⟨n.val / 512, by omega⟩ ⟨n.val % 512, Nat.mod_lt _ (by norm_num)⟩ d
    have e' : (ix2 (⟨512 * (n.val / 512) + n.val % 512, by omega⟩ : Fin 18432) d) = ix2 n d :=
      congrArg (fun k => ix2 k d) (Fin.ext (by show 512 * (n.val / 512) + n.val % 512 = n.val; omega))
    exact (e.trans e') ▸ View.emb_mem_set _ _

/-- The run leaves the output array at `outOf` and every argument as it was. -/
theorem run_value (hp : Pinned ch m) :
    θ_run (defs (F := Ideal)) (onTc (τ := τ) (main (F := Ideal))) ⟨m, fun _ => 0, ρ⟩ fun r => ∀ c : Dev nD,
      r.2.mem ((c : Thread nD τ).loc main_v0) = outOf ch m c :=
  (θ_run defs _ _).mono (fun _ h c => ((h c).1 4).trans (final ch m ρ c)) (run_main ch m ρ hp)

end Cert.ExpertsIdeal.Hand
-- ==== Proof.ExpertsFrame.lean ====
/- The frame of the grouped expert call at every pair of tables in range: the pipeline at the two prefetched tables
   `ch`, the contents the output block has after each grid point, the body's obligation by its two control paths (a tile
   in use, a tile of padding), and the launch. The set-up of the launch and the obligation's steps are those of the
   generated certificate, stated here for all tables in range instead of one pair. -/
module

public import proofs.«01_k».proof.Proof.Gen.Experts.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Experts.Hand

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra, embedded whole. -/
abbrev EP : Emb (UR sig nD τ) 𝕄 := emb₁

/-- Two prefetched tables in range: every tile's group is one of the four, and at least one tile is in use. -/
structure Tabs where
  /-- The group of each tile. -/
  grp : S36.Idx → BitVec 32
  /-- The number of tiles in use. -/
  used : S1.Idx → BitVec 32
  grp_lt : ∀ x, (grp x).toNat < 4
  used_pos : ∀ x, 1 ≤ (used x).toInt

variable (ch : Tabs)

/-- The group table. -/
def pinT_0 (ch : Tabs) : S36.Idx → BitVec 32 := ch.grp
/-- The table of the number of tiles in use. -/
def pinT_1 (ch : Tabs) : S1.Idx → BitVec 32 := ch.used

set_option backward.proofsInPublic true in
/-- The tables' contents. -/
def pfN : pre0.Contents (Elt Bits) := fun | ⟨0, _⟩ => pinT_0 ch | ⟨1, _⟩ => pinT_1 ch | ⟨_ + 2, h⟩ => absurd h (by simp)

/-- The launch memory's tables are `ch`'s. -/
def Pinned (m : (ℓ : Loc nD τ sig) → Buf (Elt Bits) ℓ) : Prop :=
  (∀ c : Dev nD, m ((c : Thread nD τ).loc main_arg0) = pinT_0 ch)
  ∧ (∀ c : Dev nD, m ((c : Thread nD τ).loc main_arg1) = pinT_1 ch)

/-- A multiple bound from a bound on the factor. -/
theorem blockBound {n k b B : Nat} (h : n < k) (hB : k * b ≤ B) : (n + 1) * b ≤ B :=
  le_trans (Nat.mul_le_mul_right b h) hB

/-- The one index of a one-element table. -/
theorem S1_eq (x y : S1.Idx) : x = y := by
  funext a
  fin_cases a
  exact Subsingleton.elim (α := Fin 1) _ _

/-- A grid point's second coordinate is 0. -/
theorem coord1 (i : grid0.Coords) : (i 1).val = 0 := Nat.lt_one_iff.mp (i 1).isLt

/-- The smaller of a small number and a positive count's predecessor is small. -/
theorem min_lt (n : Nat) (hn : n < 36) (v : BitVec 32) (hv : 1 ≤ v.toInt) :
    (Scalar.minsi (BitVec.ofNat 32 n) (Scalar.subi v 1#32)).toNat < 36 := by
  have hp : v.toNat < 2147483648 := by
    by_contra h
    have := BitVec.toInt_eq_toNat_cond v
    rw [if_neg (by omega)] at this
    have := v.isLt
    omega
  have e : v.toInt = v.toNat := by rw [BitVec.toInt_eq_toNat_cond, if_pos (by omega)]
  have hs : (v - 1#32).toNat = v.toNat - 1 := by
    have : 1 ≤ v.toNat := by omega
    rw [BitVec.toNat_sub]
    have : (1#32 : BitVec 32).toNat = 1 := rfl
    rw [this]; omega
  have key : Scalar.minsi (BitVec.ofNat 32 n) (Scalar.subi v 1#32) =
      bif (BitVec.ofNat 32 n).slt (v - 1#32) then BitVec.ofNat 32 n else v - 1#32 := by
    unfold Scalar.minsi IntOp.minsi
    exact (Bool.cond_eq_ite ..).symm
  rw [key]
  have ha : (BitVec.ofNat 32 n).toInt = n := by
    rw [BitVec.toInt_eq_toNat_cond, BitVec.toNat_ofNat, Nat.mod_eq_of_lt (by omega), if_pos (by omega)]
  have hb : (v - 1#32).toInt = (v.toNat - 1 : ℕ) := by
    rw [BitVec.toInt_eq_toNat_cond, hs, if_pos (by omega)]
  cases h : (BitVec.ofNat 32 n).slt (v - 1#32) with
  | true => rw [cond_true, BitVec.toNat_ofNat, Nat.mod_eq_of_lt (by omega)]; exact hn
  | false =>
    rw [cond_false]
    simp only [BitVec.slt, ha, hb, decide_eq_false_iff_not] at h
    rw [hs]; omega

/-- The expert block's index: the tile's group. -/
theorem grp_idx (v : BitVec 32) (n : Nat) (hn : n = 0) : Scalar.addi (Scalar.muli v 1#32) (BitVec.ofNat 32 n) = v := by
  subst hn
  simp [Scalar.addi, Scalar.muli, IntOp.addi, IntOp.muli]

/-- The side condition holds of all tables in range: every block is inside its array. -/
theorem ok_pfN : ∀ ch : Tabs, ok0 (F := Bits) (pfN ch) := fun ch =>
  ⟨fun i => ⟨fun a => by
      fin_cases a
      · exact blockBound (k := 36) (min_lt _ (i 0).isLt _ (ch.used_pos _)) (by decide)
      · show (0 + 1) * 1152 ≤ 1152; decide, .inl rfl⟩,
   fun i => ⟨fun a => by
      fin_cases a
      · show (0 + 1) * 1 ≤ 4; decide
      · refine blockBound (k := 4) ?_ (by decide)
        exact lt_of_eq_of_lt (congrArg BitVec.toNat (grp_idx (ch.grp _) _ (coord1 i))) (ch.grp_lt _)
      · show (0 + 1) * 1024 ≤ 1024; decide
      · show (0 + 1) * 256 ≤ 256; decide, .inl rfl⟩,
   fun i => ⟨fun a => by
      fin_cases a
      · show (0 + 1) * 1 ≤ 4; decide
      · refine blockBound (k := 4) ?_ (by decide)
        exact lt_of_eq_of_lt (congrArg BitVec.toNat (grp_idx (ch.grp _) _ (coord1 i))) (ch.grp_lt _)
      · show (0 + 1) * 1024 ≤ 1024; decide
      · show (0 + 1) * 256 ≤ 256; decide, .inl rfl⟩,
   fun i => ⟨fun a => by
      fin_cases a
      · show (0 + 1) * 1 ≤ 4; decide
      · exact blockBound (k := 4) (ch.grp_lt _) (by decide)
      · show (0 + 1) * 2048 ≤ 2048; decide
      · show (0 + 1) * 1024 ≤ 1024; decide, .inl rfl⟩⟩

/-- The admissible contents, the pipeline at them (`cfgA ch`: member `ch`'s grid, 36 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x1152 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x8x1024x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x8x1024x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1x2048x1024 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := k0_cond1 (crd ch t) (View.readAt (Elt Bits) (tbM0_1).view (Rect.unit (s := S1) ![0] S1.size inb_S1_S1_0).toLoadRect (pinT_1 ch) (Shape.Idx.first (numel1_S1.symm ▸ Nat.one_pos))) = 1#1

/-- The number of tiles in use, as the body reads it. -/
abbrev nuW : BitVec 32 := View.readAt (Elt Bits) (tbM0_1).view (Rect.unit (s := S1) ![0] S1.size inb_S1_S1_0).toLoadRect (pinT_1 ch) (Shape.Idx.first (numel1_S1.symm ▸ Nat.one_pos))

/-- Each grid point either computes its tile or stores zeros, according to the number of tiles in use. -/
theorem conds (i : grid0.Coords) (v : BitVec 32) :
    (k0_cond1 i v = 1#1 ∧ ¬ k0_cond12 i v = 1#1) ∨ (¬ k0_cond1 i v = 1#1 ∧ k0_cond12 i v = 1#1) := by
  unfold k0_cond1 k0_cond12
  simp only [coord1 i, Scalar.cmpi, IntOp.cmpi, Scalar.extui, Scalar.andi, IntOp.andi, BitVec.slt, BitVec.sle]
  by_cases h : (BitVec.ofNat 32 (i 0).val).toInt < v.toInt
  · left
    simp only [h, not_le.mpr h, decide_true, decide_false]
    decide
  · right
    simp only [h, not_lt.mp h, decide_true, decide_false]
    decide

/-- The comparison of a grid point's second coordinate with 0 is true. -/
theorem condj (i : grid0.Coords) : (Scalar.cmpi .ne (Scalar.extui (Scalar.cmpi .eq (BitVec.ofNat 32 (i 1).val) 0#32)) 0#32) = 1#1 := by
  rw [coord1 i]; decide

/-- The last step of the expert axis is every point's. -/
theorem condl (i : grid0.Coords) : k0_cond11 i = 1#1 := by
  unfold k0_cond11; simp only [coord1 i]; decide

/-- What a tile of padding is not. -/
theorem hypB (t : Fin (cfgA ch).N) (q : ¬P0_0 ch t) : k0_cond12 (crd ch t) (nuW ch) = 1#1 := by
  rcases conds (crd ch t) (nuW ch) with h | h
  · exact absurd h.1 q
  · exact h.2

/-- A tile in use is no padding. -/
theorem hypA (t : Fin (cfgA ch).N) (q : P0_0 ch t) : ¬ k0_cond12 (crd ch t) (nuW ch) = 1#1 := by
  rcases conds (crd ch t) (nuW ch) with h | h
  · exact h.2
  · exact absurd q h.1

/-- No point leaves the output alone. -/
theorem idle4 (t : Fin (cfgA ch).N) : (cfgA ch).idle (4 : Fin 5) ((cfgA ch).grid.coords t) = false := by
  have e : (cfgA ch).idle (4 : Fin 5) ((cfgA ch).grid.coords t)
      = (!(k0_cond1 (crd ch t) ((pfN ch).atD 1 ![0]) == 1#1 && k0_cond11 (crd ch t) == 1#1) && !(k0_cond12 (crd ch t) ((pfN ch).atD 1 ![0]) == 1#1)) := rfl
  rw [e, condl]
  rcases conds (crd ch t) ((pfN ch).atD 1 ![0]) with h | h
  · rw [h.1]; rfl
  · rw [h.2]; simp

/-- Every point writes its output block back. -/
theorem flush4 (t : Fin (cfgA ch).N) : ((cfgA ch).win (4 : Fin 5)).flush t = true :=
  (((cfgA ch).win (4 : Fin 5)).flush_reads rfl (0 : Fin 2) (show 1 < grid0.bound 0 by decide)
    (show grid0.fixedAfter reads0_4 0 = true by decide)
    (Pipeline.Window.sep_of_coord _ _ (0 : Fin 2) (fun _ => rfl) (show grid0.bound 0 ≤ 2 ^ 32 by decide)) (P := 1) (m := 0)
    (show grid0.stride 0 = 1 by decide) rfl t).mpr (Nat.mod_one _)

/-- So no point finds anything of its own in the output's buffer. -/
theorem fresh4 : ∀ n, n ≤ (cfgA ch).N → (cfgA ch).fresh (4 : Fin 5) n = true
  | 0, _ => rfl
  | n + 1, h => by rw [(cfgA ch).fresh_succ (4 : Fin 5) n h, flush4]; rfl

/-! ## What the output block has after each point -/

/-- A tile in use leaves the run's contents. -/
def outA (c : Dev nD) (t : Fin (cfgA ch).N) (q : P0_0 ch t) : S512x1024.Idx → Elt Bits .f32 :=
  out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) q (condj _) (condj _) (condj _) (condj _) (condj _) (condj _) (condj _) (condj _) (condj _) (condl _) (hypA ch t q)

/-- A tile of padding leaves the run's contents. -/
def outB (c : Dev nD) (t : Fin (cfgA ch).N) (q : ¬P0_0 ch t) : S512x1024.Idx → Elt Bits .f32 :=
  out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) default default q (hypB ch t q)

set_option maxHeartbeats 4000000 in
/-- Those do not depend on the scratch buffers. -/
theorem outB_eq (c : Dev nD) (t : Fin (cfgA ch).N) (q : ¬P0_0 ch t) (a0 a1) :
    out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) a0 a1 q (hypB ch t q) = outB ch m ρ c t q := by
  unfold outB out0_B_4
  rfl

/-- The output block after point `t`. -/
def outAt (c : Dev nD) (t : Fin (cfgA ch).N) : S512x1024.Idx → Elt Bits .f32 :=
  if q : P0_0 ch t then outA ch m ρ c t q else outB ch m ρ c t q

/-- The invariant: the scratch buffers at any contents, and the body's halves of the tables. -/
def Phi (c : Dev nD) : sProp 𝕄 :=
  iprop((∃ a, (scM0_0.view.loc (c : Thread nD τ) ↦{fullShare} a)) ∗ (∃ a, (scM0_1.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => outAt ch m ρ c t
  Φ _ := Phi ch c
  q _ := fullShare
  owed _ := 0

/-- What window 0 holds after a step. -/
theorem after0_0 (c : Dev nD) (t : Fin (cfgA ch).N) : (dats ch m ρ 0 c).after (0 : Fin 5) t = iblk ch m ρ c (0 : Fin 5) t := rfl
/-- What window 1 holds after a step. -/
theorem after0_1 (c : Dev nD) (t : Fin (cfgA ch).N) : (dats ch m ρ 0 c).after (1 : Fin 5) t = iblk ch m ρ c (1 : Fin 5) t := rfl
/-- What window 2 holds after a step. -/
theorem after0_2 (c : Dev nD) (t : Fin (cfgA ch).N) : (dats ch m ρ 0 c).after (2 : Fin 5) t = iblk ch m ρ c (2 : Fin 5) t := rfl
/-- What window 3 holds after a step. -/
theorem after0_3 (c : Dev nD) (t : Fin (cfgA ch).N) : (dats ch m ρ 0 c).after (3 : Fin 5) t = iblk ch m ρ c (3 : Fin 5) t := rfl
/-- What window 4 holds after a step. -/
theorem after0_4 (c : Dev nD) (t : Fin (cfgA ch).N) : (dats ch m ρ 0 c).after (4 : Fin 5) t = outAt ch m ρ c t := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output window 4 holds junk when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl)
    (fun t _ hi _ => absurd hi (by rw [idle4]; exact Bool.false_ne_true)) t.val t rfl d, fresh4 ch t.val (Nat.le_of_lt t.isLt), if_pos rfl]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _) (Memref.whole cc0_scratch1) (Memref.isWhole_whole _)

set_option maxHeartbeats 4000000 in
/-- The body at point `t`: the number of tiles in use tells the path; the inputs hold their blocks; the path's run applies. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  rewrite [idle4 ch t]
  by_cases q : P0_0 ch t
  · simp only [before0_0, before0_1, before0_2, before0_3, before0_4, after0_0, after0_1, after0_2, after0_3, after0_4]
    rewrite [show outAt ch m ρ c t = outA ch m ρ c t q from dif_pos q,
      show (dats ch m ρ 0 c).Φ t.succ = Phi ch c from rfl, show (dats ch m ρ 0 c).Φ t.castSucc = Phi ch c from rfl,
      show (dats ch m ρ 0 c).owesAt () t.succ = (dats ch m ρ 0 c).owesAt () t.castSucc from rfl]
    unfold Phi
    iintro ⟨⟨⟨%a0, HS0⟩, ⟨%a1, HS1⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) q (condj _) (condj _) (condj _) (condj _) (condj _) (condj _) (condj _) (condj _) (condj _) (condl _) (hypA ch t q)).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; iexact HS0
      isplitl [HS1]
      · iexists _; iexact HS1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      unfold outA out0_A_4
      exact View.read_writes_of_cover _ _ VO0_4 VO0_4.junk _ (cover0_A_4 c _ _ _ _ _ _ _ _ _ _ _ _ _ _ _ _ _ _ _ _ _ _ _ _ _ _ _ _ _)
  · simp only [before0_0, before0_1, before0_2, before0_3, before0_4, after0_0, after0_1, after0_2, after0_3, after0_4]
    rewrite [show outAt ch m ρ c t = outB ch m ρ c t q from dif_neg q,
      show (dats ch m ρ 0 c).Φ t.succ = Phi ch c from rfl, show (dats ch m ρ 0 c).Φ t.castSucc = Phi ch c from rfl,
      show (dats ch m ρ 0 c).owesAt () t.succ = (dats ch m ρ 0 c).owesAt () t.castSucc from rfl]
    unfold Phi
    iintro ⟨⟨⟨%a0, HS0⟩, ⟨%a1, HS1⟩, HT0, HT1⟩, Ho, ⟨%d0, H0⟩, ⟨%d1, H1⟩, ⟨%d2, H2⟩, ⟨%d3, H3⟩, ⟨%d4, H4⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ q (hypB ch t q)).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; iexact HS0
      isplitl [HS1]
      · iexists _; iexact HS1
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      refine (View.read_writes_of_cover _ _ VO0_4 VO0_4.junk _ (cover0_B_4 c _ _ _ _ _ _ _ _ _ _ _ _ _ _ _ _ _ _ _ _ _)).trans ?_
      exact outB_eq ch m ρ c t q _ _

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

/-- Every window is held whole. -/
theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch c from rfl]
  unfold Phi
  iintro ⟨-, ⟨HT0, HT1⟩, ⟨%a0, HS0⟩, ⟨%a1, HS1⟩⟩
  isplitl [HS0]
  · iexists a0; iexact HS0
  isplitl [HS1]
  · iexists a1; iexact HS1
  isplitl [HT0]
  · iexact HT0
  iexact HT1

/-- at the last point it gives the scratch buffers back, the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch c from rfl]
  unfold Phi
  iintro ⟨⟨%a0, HS0⟩, ⟨%a1, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

/-- The tables in memory are the ones that were pinned. -/
theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame at tables in range: every weakly fair execution terminates, nothing faults, every argument array ends
    unchanged and every semaphore counter reads zero at every final state. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts.Hand

end
-- ==== Proof.ExpertsRef.lean ====
module

public import proofs.«01_k».proof.Proof.Gen.ExpertsRefIdeal.Read
public import proofs.«01_k».proof.Proof.RealSums
public import Idealize.ShloMosaic.Lib.Pointwise

@[expose] public section

set_option maxRecDepth 16384

noncomputable section

namespace Cert.ExpertsRefIdeal.Hand

open Cert.ExpertsRefIdeal Cert.ExpertsRefIdeal.Gen Cert.ExpertsRefIdeal.Read
open Idealize.ShloMosaic Cert.RealSums

variable (T : S36.Idx → BitVec 32) (U : S1.Idx → BitVec 32) (H : S18432x1152.Idx → Elt Ideal .f32) (WG WU : S4x32x1024x256.Idx → Elt Ideal .f32)
  (WD : S4x4x2048x1024.Idx → Elt Ideal .f32)

/-- The tile of a row. -/
def tile (n : Fin 18432) : Fin 36 := ⟨n.val / 512, by omega⟩

/-- The gate of row `n` for expert `e`: the row's metadata where the expert is in the row's group and the tile is in
    use, zero elsewhere. -/
def gate (n : Fin 18432) (e : Fin 32) : EReal :=
  if BitVec.ofNat 32 (e.val / 8) = T (ix1 (tile n)) ∧ (BitVec.ofNat 32 (tile n).val).slt (U (ix1 0)) = true then
    H (ix2 n ⟨1024 + e.val % 8, by omega⟩) else 0

/-- The gate of a row at an expert. -/
theorem v24_at (n : Fin 18432) (e : Fin 32) : val_main_v24 (F := Ideal) T U H (ix2 n e) = gate T U H n e := by
  have hg : val_main_v15 (F := Ideal) (ix2 n e) = BitVec.ofNat 32 (e.val / 8) := by
    rw [val_main_v15_apply, val_main_v13_apply, val_main_v12_apply, val_main_v11_apply, val_main_v10_apply]
    rfl
  have ht : val_main_v16 (F := Ideal) T (ix2 n e) = T (ix1 (tile n)) := by
    rw [val_main_v16_apply, val_main_v14_apply, val_main_v3_apply, val_main_v2_apply]
    exact congrArg T (funext fun a => by fin_cases a; rfl)
  have hi : val_main_v6 (F := Ideal) (idx_main_v18 (idx_main_v19 (ix2 n e))) = BitVec.ofNat 32 (tile n).val := by
    rw [val_main_v6_apply, val_main_v5_apply, val_main_v4_apply]
    rfl
  have hu : val_main_v8 (F := Ideal) U (idx_main_v18 (idx_main_v19 (ix2 n e))) = U (ix1 0) := by
    rw [val_main_v8_apply]
    refine congrArg U (funext fun a => ?_)
    fin_cases a
    exact Subsingleton.elim (α := Fin 1) _ _
  have hm : val_main_v23 (F := Ideal) H (ix2 n e) = H (ix2 n ⟨1024 + e.val % 8, by omega⟩) := by
    rw [val_main_v23_apply, val_main_v22_apply, val_main_v21_apply, val_main_v1_apply]
    refine congrArg H (funext fun a => Fin.ext ?_)
    fin_cases a
    · show (((0 * 18432 + (n.val * 32 + e.val) / 32 % 18432) * 1 + 0) * 8 + (n.val * 32 + e.val) % 8) / 8 = n.val
      omega
    · show 1024 + (((0 * 18432 + (n.val * 32 + e.val) / 32 % 18432) * 1 + 0) * 8 + (n.val * 32 + e.val) % 8) % 8 = 1024 + e.val % 8
      omega
  have hz : val_main_call0_v1 (F := Ideal) (ix2 n e) = (0 : EReal) := by
    rw [val_main_call0_v1_apply, val_main_call0_v0_apply, val_main_cst_apply]
    show Ideal.ieee 8 23 0x00000000#32 = _
    simp [Ideal.ieee]
  rw [val_main_v24_apply, val_main_v20_apply, val_main_v17_apply, val_main_v19_apply, val_main_v18_apply, val_main_v9_apply, hg, ht, hi, hu, hm, hz]
  unfold gate
  show (if IntOp.andi (BitVec.ofBool (BitVec.ofNat 32 (e.val / 8) == T (ix1 (tile n)))) (BitVec.ofBool ((BitVec.ofNat 32 (tile n).val).slt (U (ix1 0)))) = 1#1
    then H (ix2 n ⟨1024 + e.val % 8, by omega⟩) else 0) = _
  by_cases p : BitVec.ofNat 32 (e.val / 8) = T (ix1 (tile n))
  · rw [beq_iff_eq.mpr p]
    cases q : (BitVec.ofNat 32 (tile n).val).slt (U (ix1 0))
    · rw [if_neg (by decide), if_neg (by simp)]
    · rw [if_pos (by decide), if_pos ⟨p, rfl⟩]
  · rw [beq_eq_false_iff_ne.mpr p]
    refine Eq.trans (if_neg ?_) (if_neg fun h => p h.1).symm
    cases (BitVec.ofNat 32 (tile n).val).slt (U (ix1 0)) <;> decide

/-- A projection of row `n` through expert `e`'s matrix `W`. -/
def proj (W : S4x32x1024x256.Idx → EReal) (n : Fin 18432) (e : Fin 32) (f : Fin 256) : EReal :=
  ∑ d : Fin 1024, H (ix2 n ⟨d.val, by omega⟩) * W (ix4 0 e d f)

/-- The gate projection of a row at an expert. -/
theorem v31_at (e : Fin 32) (n : Fin 18432) (f : Fin 256) : val_main_v31 (F := Ideal) H WG (ix3 e n f) = proj H WG n e f := by
  rw [val_main_v31_apply, val_main_v30_apply]
  refine Finset.sum_congr rfl fun d _ => ?_
  rw [val_main_v29_apply, val_main_v28_apply, val_main_v0_apply]
  refine (mul_comm _ _).trans (congrArg₂ (fun a b : EReal => a * b) (congrArg H (funext fun a => Fin.ext ?_)) (congrArg WG (funext fun a => Fin.ext ?_)))
  · fin_cases a <;> rfl
  · fin_cases a
    · rfl
    · show ((e.val * 1024 + d.val) * 256 + f.val) / 262144 % 32 = e.val
      omega
    · show ((e.val * 1024 + d.val) * 256 + f.val) / 256 % 1024 = d.val
      omega
    · show ((e.val * 1024 + d.val) * 256 + f.val) % 256 = f.val
      omega

/-- The up projection of a row at an expert. -/
theorem v36_at (e : Fin 32) (n : Fin 18432) (f : Fin 256) : val_main_v36 (F := Ideal) H WU (ix3 e n f) = proj H WU n e f := by
  rw [val_main_v36_apply, val_main_v35_apply]
  refine Finset.sum_congr rfl fun d _ => ?_
  rw [val_main_v34_apply, val_main_v33_apply, val_main_v0_apply]
  refine (mul_comm _ _).trans (congrArg₂ (fun a b : EReal => a * b) (congrArg H (funext fun a => Fin.ext ?_)) (congrArg WU (funext fun a => Fin.ext ?_)))
  · fin_cases a <;> rfl
  · fin_cases a
    · rfl
    · show ((e.val * 1024 + d.val) * 256 + f.val) / 262144 % 32 = e.val
      omega
    · show ((e.val * 1024 + d.val) * 256 + f.val) / 256 % 1024 = d.val
      omega
    · show ((e.val * 1024 + d.val) * 256 + f.val) % 256 = f.val
      omega

/-- The gated unit of expert `e` at row `n` and feature `f`, before the gate. -/
def unit (n : Fin 18432) (e : Fin 32) (f : Fin 256) : EReal :=
  proj H WG n e f * Ideal.logistic (proj H WG n e f) * proj H WU n e f

/-- The one that the logistic function adds. -/
theorem one_eq (i : S32x18432x256.Idx) : val_main_call1_v2 (F := Ideal) i = (1 : EReal) := by
  rw [val_main_call1_v2_apply, val_main_call1_cst_apply]
  show Ideal.ieee 8 23 0x3F800000#32 = _
  simp [Ideal.ieee, -EReal.coe_mul]
  norm_num

/-- The one that the logistic function divides. -/
theorem one_eq' (i : S32x18432x256.Idx) : val_main_call1_v4 (F := Ideal) i = (1 : EReal) := by
  rw [val_main_call1_v4_apply, val_main_call1_cst_0_apply]
  show Ideal.ieee 8 23 0x3F800000#32 = _
  simp [Ideal.ieee, -EReal.coe_mul]
  norm_num

/-- The hidden unit of a row at an expert. -/
theorem v37_at (e : Fin 32) (n : Fin 18432) (f : Fin 256) : val_main_v37 (F := Ideal) H WG WU (ix3 e n f) = unit H WG WU n e f := by
  rw [val_main_v37_apply, val_main_v32_apply, val_main_call1_v5_apply, val_main_call1_v3_apply, val_main_call1_v1_apply, val_main_call1_v0_apply,
    one_eq, one_eq', v31_at, v36_at]
  rfl

/-- An expert's down projection, element by element. -/
theorem v27_at (e : Fin 32) (f : Fin 256) (d : Fin 1024) :
    val_main_v27 (F := Ideal) WD (ix3 e f d) = WD (ix4 0 ⟨e.val / 8, by omega⟩ ⟨256 * (e.val % 8) + f.val, by omega⟩ d) := by
  rw [val_main_v27_apply, val_main_v26_apply, val_main_v25_apply]
  refine congrArg WD (funext fun a => Fin.ext ?_)
  generalize hx : ((e.val * 256 + f.val) * 1024 + d.val) = x
  fin_cases a
  · rfl
  · show ((((e.val * 256 + f.val) * 1024 + d.val) / 2097152 * 2048 + ((e.val * 256 + f.val) * 1024 + d.val) / 1024 % 2048) * 1024 + ((e.val * 256 + f.val) * 1024 + d.val) % 1024) / 2097152 % 4 = e.val / 8
    omega
  · show ((((e.val * 256 + f.val) * 1024 + d.val) / 2097152 * 2048 + ((e.val * 256 + f.val) * 1024 + d.val) / 1024 % 2048) * 1024 + ((e.val * 256 + f.val) * 1024 + d.val) % 1024) / 1024 % 2048 = 256 * (e.val % 8) + f.val
    omega
  · show ((((e.val * 256 + f.val) * 1024 + d.val) / 2097152 * 2048 + ((e.val * 256 + f.val) * 1024 + d.val) / 1024 % 2048) * 1024 + ((e.val * 256 + f.val) * 1024 + d.val) % 1024) % 1024 = d.val
    omega

/-- The reference at a row and a column. -/
theorem ref_at (n : Fin 18432) (d : Fin 1024) : val_main_v43 (F := Ideal) T U H WG WU WD (ix2 n d)
    = ∑ e : Fin 32, gate T U H n e * ∑ f : Fin 256, unit H WG WU n e f * WD (ix4 0 ⟨e.val / 8, by omega⟩ ⟨256 * (e.val % 8) + f.val, by omega⟩ d) := by
  have hz : val_main_cst_0 (F := Ideal) (Shape.Idx.first h_S_) = (0 : EReal) := by
    rw [val_main_cst_0_apply]
    show Ideal.ieee 8 23 0x00000000#32 = _
    simp [Ideal.ieee]
  rw [val_main_v43_apply, hz]
  refine (zero_add _).trans (Finset.sum_congr rfl fun e _ => ?_)
  have i43 : idx_main_v43 (ix2 n d) e = ix3 e n d := funext fun a => by fin_cases a <;> rfl
  rw [i43, val_main_v42_apply, val_main_v41_apply, val_main_v40_apply, val_main_v39_apply]
  refine congrArg₂ (fun a b : EReal => a * b) ?_ ?_
  · refine (congrArg (val_main_v24 (F := Ideal) T U H) (funext fun a => ?_)).trans (v24_at T U H n e)
    fin_cases a <;> rfl
  · refine (val_main_v38_apply H WG WU WD (ix3 e n d)).trans (Finset.sum_congr rfl fun f _ => ?_)
    refine congrArg₂ (fun a b : EReal => a * b) ?_ ?_
    · refine (congrArg (val_main_v37 (F := Ideal) H WG WU) (funext fun a => ?_)).trans (v37_at H WG WU e n f)
      fin_cases a <;> rfl
    · refine (congrArg (val_main_v27 (F := Ideal) WD) (funext fun a => ?_)).trans (v27_at WD e f d)
      fin_cases a <;> rfl

end Cert.ExpertsRefIdeal.Hand

end
-- ==== Proof.ExpertsValue.lean ====
module

public import proofs.«01_k».proof.Proof.ExpertsFinal
public import proofs.«01_k».proof.Proof.ExpertsFrame
public import proofs.«01_k».proof.Proof.ExpertsRef
public import proofs.«01_k».proof.Proof.ExpertsPre
public import proofs.«01_k».proof.Proof.Gen.ExpertsRefIdeal.Run

@[expose] public section

set_option maxRecDepth 16384

noncomputable section

namespace Cert.ExpertsValue

open Idealize.ShloMosaic Idealize.ShloMosaic.TcCoe Idealize.SL.Sem Cert.RealSums
open Cert.ExpertsIdeal (S18432x1152 S4x32x1024x256 S4x4x2048x1024 S18432x1024 S36 S1)

section Equation

variable (ch : Cert.ExpertsIdeal.Hand.Tabs) (H : S18432x1152.Idx → EReal) (WG WU : S4x32x1024x256.Idx → EReal) (WD : S4x4x2048x1024.Idx → EReal)

/-- A projection of finite arrays is a real number. -/
theorem proj_fin {H : S18432x1152.Idx → EReal} {W : S4x32x1024x256.Idx → EReal} (hH : ∀ x, Fin' (H x)) (hW : ∀ x, Fin' (W x)) (n e f) :
    Fin' (Cert.ExpertsRefIdeal.Hand.proj H W n e f) := Fin'.sum fun _ => (hH _).mul (hW _)

/-- On finite arrays the reference's row and column is what the kernel leaves there. -/
theorem ref_eq_out (hH : ∀ x, Fin' (H x)) (hG : ∀ x, Fin' (WG x)) (hU : ∀ x, Fin' (WU x)) (hD : ∀ x, Fin' (WD x)) (n : Fin 18432) (d : Fin 1024) :
    (∑ e : Fin 32, Cert.ExpertsRefIdeal.Hand.gate ch.grp ch.used H n e * ∑ f : Fin 256, Cert.ExpertsRefIdeal.Hand.unit H WG WU n e f * WD (ix4 0 ⟨e.val / 8, by omega⟩ ⟨256 * (e.val % 8) + f.val, by omega⟩ d))
      = Cert.ExpertsIdeal.Hand.OUT H WG WU WD ch (ix2 n d) := by
  show _ = if (BitVec.ofNat 32 (Cert.ExpertsRefIdeal.Hand.tile n).val).slt (ch.used (ix1 0)) then
    Cert.ExpertsIdeal.Hand.rowN H WG WU WD ⟨(ch.grp (ix1 (Cert.ExpertsRefIdeal.Hand.tile n))).toNat, ch.grp_lt _⟩ n d else 0
  by_cases hu : (BitVec.ofNat 32 (Cert.ExpertsRefIdeal.Hand.tile n).val).slt (ch.used (ix1 0)) = true
  · rw [if_pos hu]
    generalize hg : (⟨(ch.grp (ix1 (Cert.ExpertsRefIdeal.Hand.tile n))).toNat, ch.grp_lt _⟩ : Fin 4) = g
    have hgv : (ch.grp (ix1 (Cert.ExpertsRefIdeal.Hand.tile n))).toNat = g.val := congrArg Fin.val hg
    have hin (e : Fin 32) : BitVec.ofNat 32 (e.val / 8) = ch.grp (ix1 (Cert.ExpertsRefIdeal.Hand.tile n)) ↔ e.val / 8 = g.val := by
      rw [← hgv]
      constructor
      · intro h
        have h' := congrArg BitVec.toNat h
        rw [BitVec.toNat_ofNat] at h'
        omega
      · intro h
        rw [h, BitVec.ofNat_toNat, BitVec.setWidth_eq]
    rw [sum_group _ g]
    · unfold Cert.ExpertsIdeal.Hand.rowN
      rw [sum_blocks]
      refine Finset.sum_congr rfl fun k _ => ?_
      have e1 : Cert.ExpertsRefIdeal.Hand.gate ch.grp ch.used H n ⟨8 * g.val + k.val, by omega⟩ = H (ix2 n ⟨1024 + k.val, by omega⟩) := by
        unfold Cert.ExpertsRefIdeal.Hand.gate
        rw [if_pos ⟨(hin _).mpr (by show (8 * g.val + k.val) / 8 = g.val; omega), hu⟩]
        exact congrArg H (congrArg (ix2 n) (Fin.ext (by show 1024 + (8 * g.val + k.val) % 8 = 1024 + k.val; omega)))
      have e0 : ∀ f : Fin 256, Fin' (Cert.ExpertsRefIdeal.Hand.unit H WG WU n ⟨8 * g.val + k.val, by omega⟩ f) := fun f =>
        ((proj_fin hH hG _ _ _).mul (proj_fin hH hG _ _ _).logistic).mul (proj_fin hH hU _ _ _)
      rw [e1]
      refine (mul_sum (hH _) (fun f => (e0 f).mul (hD _))).trans (Finset.sum_congr rfl fun f _ => ?_)
      have e2 : Cert.ExpertsIdeal.Hand.actN H WG WU g n ⟨(256 * k.val + f.val) / 256, by omega⟩ ⟨(256 * k.val + f.val) % 256, Nat.mod_lt _ (by norm_num)⟩
          = Cert.ExpertsIdeal.Hand.actN H WG WU g n k f :=
        congrArg₂ (Cert.ExpertsIdeal.Hand.actN H WG WU g n) (Fin.ext (by show (256 * k.val + f.val) / 256 = k.val; omega))
          (Fin.ext (by show (256 * k.val + f.val) % 256 = f.val; omega))
      have e3 : (ix4 (0 : Fin 4) (⟨(8 * g.val + k.val) / 8, by omega⟩ : Fin 4) (⟨256 * ((8 * g.val + k.val) % 8) + f.val, by omega⟩ : Fin 2048) d)
          = ix4 0 g ⟨256 * k.val + f.val, by omega⟩ d :=
        congrArg₂ (fun a b => ix4 (0 : Fin 4) a b d) (Fin.ext (by show (8 * g.val + k.val) / 8 = g.val; omega))
          (Fin.ext (by show 256 * ((8 * g.val + k.val) % 8) + f.val = 256 * k.val + f.val; omega))
      refine Eq.trans ?_ (congrArg (fun a : EReal => a * WD (ix4 0 g ⟨256 * k.val + f.val, by omega⟩ d)) e2).symm
      refine (congrArg (fun x => H (ix2 n ⟨1024 + k.val, by omega⟩) * (Cert.ExpertsRefIdeal.Hand.unit H WG WU n ⟨8 * g.val + k.val, by omega⟩ f * WD x)) e3).trans ?_
      rw [← mul_assoc]
      exact congrArg (fun a : EReal => a * WD (ix4 0 g ⟨256 * k.val + f.val, by omega⟩ d)) (mul_comm _ _)
    · intro e he
      unfold Cert.ExpertsRefIdeal.Hand.gate
      rw [if_neg fun h => he ((hin e).mp h.1)]
      exact zero_mul _
  · rw [if_neg hu]
    refine Finset.sum_eq_zero fun e _ => ?_
    unfold Cert.ExpertsRefIdeal.Hand.gate
    rw [if_neg fun h => hu h.2]
    exact zero_mul _

end Equation

/-- One device: every device is device 0. -/
theorem dev_eq (c d : Dev Cert.ExpertsIdeal.nD) : c = d := Subsingleton.elim _ _

/-- The precondition's tables, over the exact numbers. -/
theorem pinned (m : (ℓ : Loc Cert.ExpertsIdeal.nD Cert.ExpertsIdeal.τ Cert.ExpertsIdeal.sig) → Buf (Elt Ideal) ℓ)
    (h : ∀ c : Dev Cert.ExpertsIdeal.nD, (∀ x, (m ((c.tc : Thread Cert.ExpertsIdeal.nD Cert.ExpertsIdeal.τ).loc Cert.ExpertsIdeal.main_arg0) x).toNat < 4)
      ∧ ∀ x, 1 ≤ (m ((c.tc : Thread Cert.ExpertsIdeal.nD Cert.ExpertsIdeal.τ).loc Cert.ExpertsIdeal.main_arg1) x).toInt) :
    ∃ ch, Cert.ExpertsIdeal.Hand.Pinned ch m :=
  ⟨⟨m (((0 : Dev Cert.ExpertsIdeal.nD).tc : Thread Cert.ExpertsIdeal.nD Cert.ExpertsIdeal.τ).loc Cert.ExpertsIdeal.main_arg0),
    m (((0 : Dev Cert.ExpertsIdeal.nD).tc : Thread Cert.ExpertsIdeal.nD Cert.ExpertsIdeal.τ).loc Cert.ExpertsIdeal.main_arg1), (h 0).1, (h 0).2⟩,
    fun c => by rw [dev_eq c 0]; rfl, fun c => by rw [dev_eq c 0]; rfl⟩

/-- The precondition's tables, over the machine's numbers. -/
theorem pinned_bits (m : (ℓ : Loc Cert.Experts.nD Cert.Experts.τ Cert.Experts.sig) → Buf (Elt Bits) ℓ)
    (h : ∀ c : Dev Cert.Experts.nD, (∀ x, (m ((c.tc : Thread Cert.Experts.nD Cert.Experts.τ).loc Cert.Experts.main_arg0) x).toNat < 4)
      ∧ ∀ x, 1 ≤ (m ((c.tc : Thread Cert.Experts.nD Cert.Experts.τ).loc Cert.Experts.main_arg1) x).toInt) :
    ∃ ch, Cert.Experts.Hand.Pinned ch m :=
  ⟨⟨m (((0 : Dev Cert.Experts.nD).tc : Thread Cert.Experts.nD Cert.Experts.τ).loc Cert.Experts.main_arg0),
    m (((0 : Dev Cert.Experts.nD).tc : Thread Cert.Experts.nD Cert.Experts.τ).loc Cert.Experts.main_arg1), (h 0).1, (h 0).2⟩,
    fun c => by rw [Subsingleton.elim c 0]; rfl, fun c => by rw [Subsingleton.elim c 0]; rfl⟩

/-- The kernel terminates without fault, over the machine's numbers. -/
theorem frame_bits : Cert.quiescent_Experts (hExperts := Cert.Experts.Gen.facts) (hPre_groups_in_range := Cert.Pre_groups_in_range.Gen.facts) := by
  intro m g hp
  obtain ⟨ch, hc⟩ := pinned_bits m fun c => Cert.ExpertsPre.in_range (hp c)
  exact Cert.Experts.Hand.frame ch m g hc

/-- The kernel terminates without fault, over the exact numbers. -/
theorem frame_ideal : Cert.quiescent_ExpertsIdeal (hExpertsIdeal := Cert.ExpertsIdeal.Gen.facts) (hPre_groups_in_range := Cert.Pre_groups_in_range.Gen.facts) := by
  intro m g hp
  obtain ⟨ch, hc⟩ := pinned m fun c => Cert.ExpertsPre.in_range (hp c)
  exact Cert.ExpertsIdeal.Hand.frame ch m g hc

/-- The same with finite arrays. -/
theorem frame_ideal_finite : Cert.quiescent_ExpertsIdeal_pre_finite_groups (hExpertsIdeal := Cert.ExpertsIdeal.Gen.facts) (hPre_finite_groups := Cert.Pre_finite_groups.Gen.facts) := by
  intro m g hp
  obtain ⟨ch, hc⟩ := pinned m fun c => (Cert.ExpertsPre.finite_in_range (hp c)).1
  exact Cert.ExpertsIdeal.Hand.frame ch m g hc

/-- The reference terminates without fault. -/
theorem frame_ref : Cert.quiescent_ExpertsRefIdeal (hExpertsRefIdeal := Cert.ExpertsRefIdeal.Gen.facts) := by
  intro m g _
  exact (θ_run Cert.ExpertsRefIdeal.defs _ _).mono (fun r h => ⟨fun c => (h c).2, sem_eq_zero_of_no_sems (by decide) r.2⟩)
    (Cert.ExpertsRefIdeal.Value.run (F := Ideal) m g)

/-- The same with finite arrays. -/
theorem frame_ref_finite : Cert.quiescent_ExpertsRefIdeal_pre_finite_groups (hExpertsRefIdeal := Cert.ExpertsRefIdeal.Gen.facts) (hPre_finite_groups := Cert.Pre_finite_groups.Gen.facts) := by
  intro m g _
  exact frame_ref m g trivial

/-- On finite arrays and tables in range the kernel leaves what the reference computes. -/
theorem value : Cert.algebraic_ExpertsIdeal_ExpertsRefIdeal_pre_finite_groups (hExpertsIdeal := Cert.ExpertsIdeal.Gen.facts)
    (hExpertsRefIdeal := Cert.ExpertsRefIdeal.Gen.facts) (hPre_finite_groups := Cert.Pre_finite_groups.Gen.facts) := by
  intro m g m' g' hp hag
  obtain ⟨ch, hc⟩ := pinned m fun c => (Cert.ExpertsPre.finite_in_range (hp c)).1
  refine ⟨fun c => Cert.ExpertsIdeal.Hand.outOf ch m c, ?_, ?_⟩
  · exact (θ_run _ _ _).mono (fun _ h c => ⟨h.1 c, h.2 c⟩)
      (θ_run_and (Cert.ExpertsIdeal.Hand.run_value ch m g hc) (Cert.ExpertsIdeal.Hand.unchanged ch m g hc))
  · refine (θ_run _ _ _).mono (fun _ h c => ⟨(h c).1.trans ?_, (h c).2⟩) (Cert.ExpertsRefIdeal.Value.run (F := Ideal) m' g')
    refine (Cert.ExpertsRefIdeal.Read.val_main_v43_eq (F := Ideal) _ _ _ _ _ _).trans ?_
    obtain ⟨a0, a1, a2, a3, a4, a5⟩ := hag c
    obtain ⟨-, f2, f3, f4, f5⟩ := Cert.ExpertsPre.finite_in_range (hp c)
    rw [a0, a1, a2, a3, a4, a5, hc.1 c, hc.2 c]
    refine funext fun (z : S18432x1024.Idx) => ?_
    obtain ⟨n, d, rfl⟩ : ∃ (n : Fin 18432) (d : Fin 1024), z = ix2 n d := ⟨z 0, z 1, by funext a; fin_cases a <;> rfl⟩
    exact (Cert.ExpertsRefIdeal.Hand.ref_at ch.grp ch.used _ _ _ _ n d).trans (ref_eq_out ch _ _ _ _ f2 f3 f4 f5 n d)

end Cert.ExpertsValue

end
-- ==== Proof.lean ====
/- The proof of the certificate's claim: the witnesses of the programs' stated facts, then each claim from the module
   that proves it (`LatentClaims` and `LatentValue` for the attention call, `ExpertsValue` for the grouped experts). -/
module

public import proofs.«01_k».proof.Defs
public import proofs.«01_k».proof.Proof.Gen.Latent
public import proofs.«01_k».proof.Proof.Gen.Latent.Skeleton
public import proofs.«01_k».proof.Proof.Gen.Latent.Launch
public import proofs.«01_k».proof.Proof.Gen.Latent.Flash
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Flash
public import proofs.«01_k».proof.Proof.Gen.LatentRefIdeal
public import proofs.«01_k».proof.Proof.Gen.LatentRefIdeal.Run
public import proofs.«01_k».proof.Proof.Gen.LatentRefIdeal.Read
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_causal_schedule
public import proofs.«01_k».proof.Proof.Gen.Pre_finite_with_ones
public import proofs.«01_k».proof.Proof.Gen.Pre_groups_in_range
public import proofs.«01_k».proof.Proof.Gen.Pre_finite_groups
public import proofs.«01_k».proof.Proof.LatentClaims
public import proofs.«01_k».proof.Proof.LatentValue
public import proofs.«01_k».proof.Proof.ExpertsValue
public import Idealize.ShloMosaic.Adequacy
public import Idealize.ShloMosaic.Init

@[expose] public section

noncomputable section

namespace Cert.Proof

open Idealize.ShloMosaic Idealize.SL.Sem Cert.Latent

/-- Every claim of the certificate. -/
theorem claim : Cert.Claim := ⟨Cert.Latent.Gen.facts, Cert.LatentIdeal.Gen.facts, Cert.LatentRefIdeal.Gen.facts, Cert.Experts.Gen.facts, Cert.ExpertsIdeal.Gen.facts, Cert.ExpertsRefIdeal.Gen.facts, Cert.Pre_causal_schedule.Gen.facts, Cert.Pre_finite_with_ones.Gen.facts, Cert.Pre_groups_in_range.Gen.facts, Cert.Pre_finite_groups.Gen.facts,
  LatentClaims.frame_bits, LatentClaims.frame_ideal, LatentValue.frame_ideal_finite, LatentClaims.frame_ref, LatentValue.frame_ref_finite, ExpertsValue.frame_bits, ExpertsValue.frame_ideal,
  ExpertsValue.frame_ideal_finite, ExpertsValue.frame_ref, ExpertsValue.frame_ref_finite, LatentClaims.keeps, LatentValue.value, trivial, ExpertsValue.value⟩

end Cert.Proof

end
